-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "expc" .f32 0x42B8AA3B#32 ((64 * (Real.log 2)⁻¹ : ℝ) : EReal)

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S8192x10000 : Shape := ⟨2, ![8192, 10000]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x10000 .f32) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 10000#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Kernel.lean ====
abbrev S8192x10000 : Shape := ⟨2, ![8192, 10000]⟩
abbrev S8192 : Shape := ⟨1, ![8192]⟩
abbrev S10000x8192 : Shape := ⟨2, ![10000, 8192]⟩
abbrev S1x8192 : Shape := ⟨2, ![1, 8192]⟩
abbrev S1x1 : Shape := ⟨2, ![1, 1]⟩
abbrev S10x80x8192 : Shape := ⟨3, ![10, 80, 8192]⟩
abbrev S10 : Shape := ⟨1, ![10]⟩
abbrev S8x8192 : Shape := ⟨2, ![8, 8192]⟩
abbrev S1 : Shape := ⟨1, ![1]⟩
abbrev S_ : Shape := ⟨0, ![]⟩
abbrev S1x80x8192 : Shape := ⟨3, ![1, 80, 8192]⟩
abbrev S80x8192 : Shape := ⟨2, ![80, 8192]⟩
abbrev S1x1x8192 : Shape := ⟨3, ![1, 1, 8192]⟩
abbrev S1x1x1 : Shape := ⟨3, ![1, 1, 1]⟩

abbrev nBuf : Space → Nat
  | .hbm => 6
  | .vmem => 4
  | .smem => 1
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S10000x8192, .f32⟩
  | .hbm, ⟨3, _⟩ => ⟨S1x8192, .i32⟩
  | .hbm, ⟨4, _⟩ => ⟨S1x1, .f32⟩
  | .hbm, ⟨5, _⟩ => ⟨S_, .f32⟩
  | .local _ .vmem, ⟨0, _⟩ => ⟨S1x8192, .i32⟩
  | .local _ .vmem, ⟨1, _⟩ => ⟨S10x80x8192, .f32⟩
  | .local _ .vmem, ⟨2, _⟩ => ⟨S8x8192, .f32⟩
  | .local _ .vmem, ⟨3, _⟩ => ⟨S8x8192, .f32⟩
  | .local _ .smem, ⟨0, _⟩ => ⟨S1x1, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_scratch3 : Ref sig .tc := ⟨.vmem, 3, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_49 : BitVec 32 := 0#32
  let c125_i32 : BitVec 32 := 125#32
  let v81 : BitVec 32 := Scalar.addi c0_i32_49 c125_i32
  let c1_i32_50 : BitVec 32 := 1#32
  ⟨c0_i32_49, v81, c1_i32_50⟩
def k0_off1 (k0_t1 : Fin k0_t1_loop.trips) : Fin 1 → Nat :=
  let c0_i32_49 : BitVec 32 := 0#32
  let c1_i32_50 : BitVec 32 := 1#32
  let arg7 : BitVec 32 := Scf.iv c0_i32_49 c1_i32_50 k0_t1
  let c10_i32 : BitVec 32 := 10#32
  let v119 : BitVec 32 := Scalar.remsi arg7 c10_i32
  ![v119.toNat]
def k0_off2 (k0_t1 : Fin k0_t1_loop.trips) : Fin 3 → Nat :=
  let c0_i32_49 : BitVec 32 := 0#32
  let c1_i32_50 : BitVec 32 := 1#32
  let arg7 : BitVec 32 := Scf.iv c0_i32_49 c1_i32_50 k0_t1
  let c10_i32 : BitVec 32 := 10#32
  let v119 : BitVec 32 := Scalar.remsi arg7 c10_i32
  let c0_i32_69 : BitVec 32 := 0#32
  let c0_i32_70 : BitVec 32 := 0#32
  ![v119.toNat, 0, 0]
def k0_cond1 (k0_t1 : Fin k0_t1_loop.trips) : BitVec 1 :=
  let c0_i32_49 : BitVec 32 := 0#32
  let c1_i32_50 : BitVec 32 := 1#32
  let arg7 : BitVec 32 := Scf.iv c0_i32_49 c1_i32_50 k0_t1
  let c10_i32_135 : BitVec 32 := 10#32
  let v261 : BitVec 32 := Scalar.addi arg7 c10_i32_135
  let c125_i32_136 : BitVec 32 := 125#32
  let v262 : BitVec 1 := Scalar.cmpi .slt v261 c125_i32_136
  let v263 : BitVec 32 := Scalar.extui v262
  let c0_i32_137 : BitVec 32 := 0#32
  let v264 : BitVec 1 := Scalar.cmpi .ne v263 c0_i32_137
  v264

def k0_off3 (k0_t1 : Fin k0_t1_loop.trips) : Fin 1 → Nat :=
  let c0_i32_49 : BitVec 32 := 0#32
  let c1_i32_50 : BitVec 32 := 1#32
  let arg7 : BitVec 32 := Scf.iv c0_i32_49 c1_i32_50 k0_t1
  let c10_i32 : BitVec 32 := 10#32
  let v119 : BitVec 32 := Scalar.remsi arg7 c10_i32
  ![v119.toNat]
def k0_off4 (k0_t1 : Fin k0_t1_loop.trips) : Fin 3 → Nat :=
  let c0_i32_49 : BitVec 32 := 0#32
  let c1_i32_50 : BitVec 32 := 1#32
  let arg7 : BitVec 32 := Scf.iv c0_i32_49 c1_i32_50 k0_t1
  let c10_i32 : BitVec 32 := 10#32
  let v119 : BitVec 32 := Scalar.remsi arg7 c10_i32
  let c0_i32_140 : BitVec 32 := 0#32
  let c0_i32_141 : BitVec 32 := 0#32
  ![v119.toNat, 0, 0]
def k0_off5 (k0_t1 : Fin k0_t1_loop.trips) : Fin 2 → Nat :=
  let c0_i32_49 : BitVec 32 := 0#32
  let c1_i32_50 : BitVec 32 := 1#32
  let arg7 : BitVec 32 := Scf.iv c0_i32_49 c1_i32_50 k0_t1
  let c10_i32_138 : BitVec 32 := 10#32
  let v265 : BitVec 32 := Scalar.addi arg7 c10_i32_138
  let c80_i32_139 : BitVec 32 := 80#32
  let v266 : BitVec 32 := Scalar.muli v265 c80_i32_139
  let c0_i32_142 : BitVec 32 := 0#32
  ![v266.toNat, 0]
abbrev stage0_0 : Fin 1 → Memref sig .tc .vmem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "expc" => some ((64 * (Real.log 2)⁻¹ : ℝ) : EReal)
  | _ => none
-- ==== ReferenceIdeal.lean ====
abbrev S8192x10000 : Shape := ⟨2, ![8192, 10000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192x10000, .f32⟩
  | .hbm, ⟨44, _⟩ => ⟨S8192x10000, .f32⟩
  | .hbm, ⟨45, _⟩ => ⟨S8192x10000, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_cst_5 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_6 : Ref sig .tc := ⟨.hbm, 57, rfl⟩
abbrev main_v22 : Ref sig .tc := ⟨.hbm, 58, rfl⟩
abbrev main_cst_7 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== Proof.KernelIdeal.Ring.lean ====
/- The ring of ten slots of the kernel's copies: the slots, their cells, the blocks of the weights, and what a slot
   holds when it is free and when a copy into it is in flight. -/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.FrameSuffix
public import Idealize.ShloMosaic.Lib.Transfers
public import Idealize.ShloMosaic.Lib.Ring
public import Idealize.ShloMosaic.Lib.Exec
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The transposed weights, left in main memory. -/
abbrev wM : Memref sig .tc .hbm S10000x8192 .f32 := Memref.whole main_v0
/-- The ring of ten slots, and the two accumulators. -/
abbrev rM : Memref sig .tc .vmem S10x80x8192 .f32 := Memref.whole cc0_scratch0
abbrev eM : Memref sig .tc .vmem S8x8192 .f32 := Memref.whole cc0_scratch2
abbrev tM : Memref sig .tc .vmem S8x8192 .f32 := Memref.whole cc0_scratch3

/-- The slot of the ring at given offsets. -/
abbrev slotAt (o : Fin 3 → ℕ) (h : ∀ a, o a + S1x80x8192.size a ≤ S10x80x8192.size a) : Memref sig .tc .vmem S80x8192 .f32 :=
  (rM.slice (Rect.unit (s := S10x80x8192) o S1x80x8192.size h) (fun _ => rfl)).squeeze S80x8192 squeezes_S1x80x8192_S80x8192
/-- The semaphore of the ring at a given offset. -/
abbrev cellAt (o : Fin 1 → ℕ) (h : ∀ a, o a + S1.size a ≤ S10.size a) : DmaSem sig :=
  ((cc0_scratch1.slice (Rect.unit (s := S10) o S1.size h)).squeeze S_ squeezes_S1_S_).sem
/-- Eighty rows of the weights at given offsets. -/
abbrev srcAt (o : Fin 2 → ℕ) (h : ∀ a, o a + S80x8192.size a ≤ S10000x8192.size a) : Memref sig .tc .hbm S80x8192 .f32 :=
  wM.slice (Rect.unit (s := S10000x8192) o S80x8192.size h) (fun _ => rfl)

/-- The contents of the weights' buffer, of the ring's and of an accumulator's. -/
abbrev WBuf (c : Dev nD) : Type := Buf (Elt F) (wM.view.loc (c : Thread nD τ))
abbrev RBuf (c : Dev nD) : Type := Buf (Elt F) (rM.view.loc (c : Thread nD τ))
abbrev EBuf (c : Dev nD) : Type := Buf (Elt F) (eM.view.loc (c : Thread nD τ))
abbrev TBuf (c : Dev nD) : Type := Buf (Elt F) (tM.view.loc (c : Thread nD τ))

/-- Slot `j`'s read share of the weights, on the elements `S` (numbered as its cell, two being the pipeline's). -/
abbrev tok (c : Dev nD) (j : ℕ) (S : Finset (Idx (wM.view.loc (c : Thread nD τ)))) (fw : WBuf (F := F) c) : sProp 𝕄 :=
  wM.view.loc (c : Thread nD τ) ↦[S]{Transfers.shareTokN fullShare (j + 2)} fw

/-- A slot FREE: its cell at zero, the slot at anything, its read share whole. -/
abbrev freeAt (c : Dev nD) (fw : WBuf (F := F) c) (j : ℕ) (o : Fin 3 → ℕ) (ho : ∀ a, o a + S1x80x8192.size a ≤ S10x80x8192.size a)
    (p : Fin 1 → ℕ) (hp : ∀ a, p a + S1.size a ≤ S10.size a) : sProp 𝕄 :=
  iprop(semVal ((c : Thread nD τ), SemLoc.dma (cellAt p hp)) 0
    ∗ (∃ f : RBuf (F := F) c, (slotAt o ho).view.loc (c : Thread nD τ) ↦[(slotAt o ho).view.set]{fullShare} f)
    ∗ tok c j Finset.univ fw)

/-- A slot IN FLIGHT with the eighty rows at `q`: the flight, which delivers the slot filled with the rows and the rows'
    share, and the rest of the slot's read share. -/
abbrev flightAt (c : Dev nD) (fw : WBuf (F := F) c) (j : ℕ) (o : Fin 3 → ℕ) (ho : ∀ a, o a + S1x80x8192.size a ≤ S10x80x8192.size a)
    (p : Fin 1 → ℕ) (hp : ∀ a, p a + S1.size a ≤ S10.size a)
    (q : Fin 2 → ℕ) (hq : ∀ a, q a + S80x8192.size a ≤ S10000x8192.size a) : sProp 𝕄 :=
  iprop((∃ f : RBuf (F := F) c, Transfers.Flight (countersEmb (U := Pipeline.UD sig nD τ)) (c : Thread nD τ) (SemLoc.dma (cellAt p hp)) () 81920
        iprop(((slotAt o ho).view.loc (c : Thread nD τ) ↦[(slotAt o ho).view.set]{fullShare}
            (slotAt o ho).view.writes (Elt F) f [⟨Rect.whole S80x8192, ReadAs.same.apply ((srcAt q hq).view.read (Elt F) fw)⟩])
          ∗ tok c j (srcAt q hq).view.set fw))
    ∗ tok c j (Finset.univ \ (srcAt q hq).view.set) fw)

end Cert.KernelIdeal.Hand

end
-- ==== Proof.KernelIdeal.Acc.lean ====
/- What the two accumulators hold before each trip of the loop, as values: the trip's arithmetic over the eighty rows of
   the weights it reads. -/
module

public import proofs.«01_k».proof.Proof.KernelIdeal.Ring

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- Rows `r … r+7` of the eighty rows of the weights at `q`. -/
def rows {c : Dev nD} (fw : WBuf (F := F) c) (q : Fin 2 → ℕ) (hq : ∀ a, q a + S80x8192.size a ≤ S10000x8192.size a)
    (r : ℕ) (hr : ∀ a, ![r, 0] a + S8x8192.size a ≤ S80x8192.size a) : Vec F S8x8192 .f32 :=
  fun i => (srcAt q hq).view.read (Elt F) fw ((Rect.unit (s := S80x8192) ![r, 0] S8x8192.size hr).toLoadRect.idx i)

/-- A load of eight rows of a slot that holds a copied block reads those rows of the weights. -/
theorem load_rows {c : Dev nD} (fw : WBuf (F := F) c) (q : Fin 2 → ℕ) (hq : ∀ a, q a + S80x8192.size a ≤ S10000x8192.size a)
    (r : ℕ) (hr : ∀ a, ![r, 0] a + S8x8192.size a ≤ S80x8192.size a) (v : View sig .tc .vmem S80x8192 .f32) :
    v.readCov [⟨Rect.whole S80x8192, ReadAs.same.apply ((srcAt q hq).view.read (Elt F) fw)⟩]
      (Rect.unit (s := S80x8192) ![r, 0] S8x8192.size hr).toLoadRect = rows fw q hq r hr := by
  funext i
  exact congrFun (View.read_writes_whole v v.junk _) _

/-- A store of a whole accumulator leaves the stored value. -/
theorem put_acc (v : View sig .tc .vmem S8x8192 .f32) (f : v.ty.Contents (Elt F)) (h : ∀ a, ![0, 0] a + S8x8192.size a ≤ S8x8192.size a)
    (x : Vec F S8x8192 .f32) : v.read (Elt F) (v.writes (Elt F) f [⟨Rect.unit (s := S8x8192) ![0, 0] S8x8192.size h, x⟩]) = x := by
  funext y
  have e := View.read_writes_cons_emb v f (Rect.unit (s := S8x8192) ![0, 0] S8x8192.size h) x [] y
  have hy : (Rect.unit (s := S8x8192) ![0, 0] S8x8192.size h).emb y = y := by
    funext a; apply Fin.ext; fin_cases a <;> simp [Rect.emb, Rect.unit]
  rwa [hy] at e

/-- A load of a whole accumulator reads what it holds. -/
theorem load_acc (v : View sig .tc .vmem S8x8192 .f32) (f : v.ty.Contents (Elt F)) (h : ∀ a, ![0, 0] a + S8x8192.size a ≤ S8x8192.size a) :
    v.readAt (Elt F) (Rect.unit (s := S8x8192) ![0, 0] S8x8192.size h).toLoadRect f = v.read (Elt F) f := by
  funext y
  have hy : (Rect.unit (s := S8x8192) ![0, 0] S8x8192.size h).toLoadRect.idx y = y := by
    funext a; apply Fin.ext; fin_cases a <;> simp [Rect.toLoadRect, LoadRect.idx, Rect.unit]
  exact congrArg (v.read (Elt F) f) hy

/-- Two writes are the second over what the first leaves. -/
theorem writes_pair (v : View sig .tc .vmem S80x8192 .f32) (f : v.ty.Contents (Elt F)) (p₂ p₁ : View.Piece (Elt F) S80x8192 .f32) :
    v.writes (Elt F) f [p₂, p₁] = v.writes (Elt F) (v.writes (Elt F) f [p₁]) [p₂] := rfl

/-- The labels less the trip's first class. -/
abbrev lab0 (lab : Vec F S1x8192 .i32) (k : Fin k0_t1_loop.trips) : IVec S1x8192 32 := k0_pay2 (k0_pay13 lab) 0#32 1#32 k

/-- One trip's addition to the accumulator of the exponentials, from the ten groups of eight rows. -/
def stepE (b : Fin 10 → Vec F S8x8192 .f32) (acc : Vec F S8x8192 .f32) : Vec F S8x8192 .f32 :=
  k0_pay23 (k0_pay10 (k0_pay5 (k0_pay3 (b 0) (b 1)) (b 2) (b 3) (b 4)) (b 5) (b 6) (b 7) (b 8)) (b 9) acc

/-- One trip's addition to the accumulator of the chosen entries. -/
def stepT (lab : Vec F S1x8192 .i32) (k : Fin k0_t1_loop.trips) (b : Fin 10 → Vec F S8x8192 .f32) (acc : Vec F S8x8192 .f32) :
    Vec F S8x8192 .f32 :=
  k0_pay24 (lab0 lab k)
    (k0_pay8 k0_pay19 k0_pay20 k0_pay21 (lab0 lab k)
      (k0_pay6 k0_pay16 k0_pay17 k0_pay18 (lab0 lab k) (k0_pay4 (k0_pay13 lab) k0_pay14 k0_pay15 0#32 1#32 k (b 0) (b 1)) (b 2) (b 3) (b 4))
      (b 5) (k0_pay7 (lab0 lab k)) (b 6) (b 7))
    (b 8) (k0_pay9 k0_pay22 (lab0 lab k)) (b 9) acc

theorem inb_rows (j : Fin 10) : ∀ a, ![8 * j.val, 0] a + S8x8192.size a ≤ S80x8192.size a := by
  intro a; fin_cases a <;> simp <;> omega

/-- The ten groups of rows of the block at `q`. -/
def groups {c : Dev nD} (fw : WBuf (F := F) c) (q : Fin 2 → ℕ) (hq : ∀ a, q a + S80x8192.size a ≤ S10000x8192.size a) :
    Fin 10 → Vec F S8x8192 .f32 := fun j => rows fw q hq (8 * j.val) (inb_rows j)

theorem trips_eq : k0_t1_loop.trips = 125 := by rfl

theorem inb_blk (k : ℕ) (h : k < 125) : ∀ a, ![80 * k, 0] a + S80x8192.size a ≤ S10000x8192.size a := by
  intro a; fin_cases a <;> simp <;> omega

/-- The accumulator of the exponentials before trip `n`. -/
def accE {c : Dev nD} (fw : WBuf (F := F) c) : ℕ → Vec F S8x8192 .f32
  | 0 => k0_pay11
  | n + 1 => if h : n < 125 then stepE (groups fw ![80 * n, 0] (inb_blk n h)) (accE fw n) else accE fw n

/-- The accumulator of the chosen entries before trip `n`. -/
def accT {c : Dev nD} (fw : WBuf (F := F) c) (lab : Vec F S1x8192 .i32) : ℕ → Vec F S8x8192 .f32
  | 0 => k0_pay12
  | n + 1 => if h : n < 125 then stepT lab ⟨n, trips_eq ▸ h⟩ (groups fw ![80 * n, 0] (inb_blk n h)) (accT fw lab n) else accT fw lab n

end Cert.KernelIdeal.Hand

end
-- ==== Proof.KernelIdeal.Trip.lean ====
/- One trip of the loop: the wait for the trip's slot, the ten loads of it and the two updates of the accumulators, and
   the start of the slot's next copy where there is one. -/
module

public import proofs.«01_k».proof.Proof.KernelIdeal.Acc

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- A trip that starts the slot's next copy. -/
theorem trip_more (c : Dev nD) (arg0 : Memref sig .tc .vmem S1x8192 .i32) (harg0 : arg0.IsWhole) (arg2 : Memref sig .tc .smem S1x1 .f32) (harg2 : arg2.IsWhole)
    (fw : WBuf (F := F) c) (lab : Vec F S1x8192 .i32) (k : Fin k0_t1_loop.trips)
    (q : Fin 2 → ℕ) (hq : ∀ a, q a + S80x8192.size a ≤ S10000x8192.size a) (fe : EBuf (F := F) c) (ft : TBuf (F := F) c)
    (hc : k0_cond1 k = 1#1) (W : Waits sig Unit) (K : PUnit → sProp 𝕄) :
    iprop(flightAt c fw (k.val % 10) (k0_off2 k) (k0_off2_inb k) (k0_off1 k) (k0_off1_inb k) q hq
      ∗ (eM.view.loc (c : Thread nD τ) ↦{fullShare} fe) ∗ (tM.view.loc (c : Thread nD τ) ↦{fullShare} ft)
      ∗ owes (c : Thread nD τ) 0 W
      ∗ ((flightAt c fw (k.val % 10) (k0_off2 k) (k0_off2_inb k) (k0_off1 k) (k0_off1_inb k) (k0_off5 k) (k0_off5_inb k hc)
          ∗ (∃ fe', iprop(⌜eM.view.read (Elt F) fe' = stepE (groups fw q hq) (eM.view.read (Elt F) fe)⌝ ∗ (eM.view.loc (c : Thread nD τ) ↦{fullShare} fe')))
          ∗ (∃ ft', iprop(⌜tM.view.read (Elt F) ft' = stepT lab k (groups fw q hq) (tM.view.read (Elt F) ft)⌝ ∗ (tM.view.loc (c : Thread nD τ) ↦{fullShare} ft')))
          ∗ (∃ W', owes (c : Thread nD τ) 0 W')) -∗ K ⟨⟩))
    ⊢ wp frame (wpE (defs₀ (F := F)) Variants.none c none) Set.univ
        (k0_t1_body arg0 harg0 wM (Memref.isWhole_whole _) arg2 harg2 rM (Memref.isWhole_whole _) cc0_scratch1 eM (Memref.isWhole_whole _) tM (Memref.isWhole_whole _) lab k ⟨⟩) K := by
  unfold k0_t1_body
  simp only [dif_pos hc]
  simp only [k0_part1_eq_skeleton, k0_part2_eq_skeleton, k0_part3_eq_skeleton]
  unfold k0_part1_skel k0_part2_skel k0_part3_skel
  iintro ⟨⟨⟨%f, Hf⟩, Htok⟩, He, Ht, HO, HK⟩
  sl_exec
  sl_step
  sl_exec
  sl_step
  sl_exec
  sl_step
  iapply HK
  rw [writes_pair]
  isplitl [Hf Htok]
  · isplitl [Hf]
    · iexists ((slotAt (k0_off2 k) (k0_off2_inb k)).view.writes (Elt F) f [⟨Rect.whole S80x8192, ReadAs.same.apply ((srcAt q hq).view.read (Elt F) fw)⟩])
      iexact Hf
    · iexact Htok
  isplitl [He]
  · iexists _
    isplitr [He]
    rotate_left
    · iexact He
    ipureintro
    refine (put_acc _ _ _ _).trans ?_
    rw [load_acc]
    unfold stepE groups
    simp only [← load_rows fw q hq _ _ (slotAt (k0_off2 k) (k0_off2_inb k)).view]
    rfl
  isplitl [Ht]
  · iexists _
    isplitr [Ht]
    rotate_left
    · iexact Ht
    ipureintro
    refine (put_acc _ _ _ _).trans ?_
    rw [load_acc]
    unfold stepT groups
    simp only [← load_rows fw q hq _ _ (slotAt (k0_off2 k) (k0_off2_inb k)).view]
    rfl
  iexists _
  iexact HO

/-- A trip after which the slot stays free: one of the last ten. -/
theorem trip_last (c : Dev nD) (arg0 : Memref sig .tc .vmem S1x8192 .i32) (harg0 : arg0.IsWhole) (arg2 : Memref sig .tc .smem S1x1 .f32) (harg2 : arg2.IsWhole)
    (fw : WBuf (F := F) c) (lab : Vec F S1x8192 .i32) (k : Fin k0_t1_loop.trips)
    (q : Fin 2 → ℕ) (hq : ∀ a, q a + S80x8192.size a ≤ S10000x8192.size a) (fe : EBuf (F := F) c) (ft : TBuf (F := F) c)
    (hc : ¬ k0_cond1 k = 1#1) (W : Waits sig Unit) (K : PUnit → sProp 𝕄) :
    iprop(flightAt c fw (k.val % 10) (k0_off2 k) (k0_off2_inb k) (k0_off1 k) (k0_off1_inb k) q hq
      ∗ (eM.view.loc (c : Thread nD τ) ↦{fullShare} fe) ∗ (tM.view.loc (c : Thread nD τ) ↦{fullShare} ft)
      ∗ owes (c : Thread nD τ) 0 W
      ∗ ((freeAt c fw (k.val % 10) (k0_off2 k) (k0_off2_inb k) (k0_off1 k) (k0_off1_inb k)
          ∗ (∃ fe', iprop(⌜eM.view.read (Elt F) fe' = stepE (groups fw q hq) (eM.view.read (Elt F) fe)⌝ ∗ (eM.view.loc (c : Thread nD τ) ↦{fullShare} fe')))
          ∗ (∃ ft', iprop(⌜tM.view.read (Elt F) ft' = stepT lab k (groups fw q hq) (tM.view.read (Elt F) ft)⌝ ∗ (tM.view.loc (c : Thread nD τ) ↦{fullShare} ft')))
          ∗ (∃ W', owes (c : Thread nD τ) 0 W')) -∗ K ⟨⟩))
    ⊢ wp frame (wpE (defs₀ (F := F)) Variants.none c none) Set.univ
        (k0_t1_body arg0 harg0 wM (Memref.isWhole_whole _) arg2 harg2 rM (Memref.isWhole_whole _) cc0_scratch1 eM (Memref.isWhole_whole _) tM (Memref.isWhole_whole _) lab k ⟨⟩) K := by
  unfold k0_t1_body
  simp only [dif_neg hc]
  simp only [k0_part1_eq_skeleton, k0_part2_eq_skeleton, k0_part3_eq_skeleton]
  unfold k0_part1_skel k0_part2_skel k0_part3_skel
  iintro ⟨⟨⟨%f, Hf⟩, Htok⟩, He, Ht, HO, HK⟩
  sl_exec
  sl_step
  sl_exec
  sl_step
  sl_exec
  sl_step
  iapply HK
  isplitl [Hf Hf_dst Htok]
  · isplitl [Hf]
    · iexact Hf
    isplitl [Hf_dst]
    · iexists _
      iexact Hf_dst
    · iexact Htok
  isplitl [He]
  · iexists _
    isplitr [He]
    rotate_left
    · iexact He
    ipureintro
    refine (put_acc _ _ _ _).trans ?_
    rw [load_acc]
    unfold stepE groups
    simp only [← load_rows fw q hq _ _ (slotAt (k0_off2 k) (k0_off2_inb k)).view]
    rfl
  isplitl [Ht]
  · iexists _
    isplitr [Ht]
    rotate_left
    · iexact Ht
    ipureintro
    refine (put_acc _ _ _ _).trans ?_
    rw [load_acc]
    unfold stepT groups
    simp only [← load_rows fw q hq _ _ (slotAt (k0_off2 k) (k0_off2_inb k)).view]
    rfl
  iexists _
  iexact HO

end Cert.KernelIdeal.Hand

end
-- ==== Proof.KernelIdeal.Loop.lean ====
/- The loop's invariant: the ten slots, each free or in flight with the block its turn has come to, and the two
   accumulators at the values of the trips before. -/
module

public import proofs.«01_k».proof.Proof.KernelIdeal.Trip
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem inb_slot (j : ℕ) (h : j < 10) : ∀ a, ![j, 0, 0] a + S1x80x8192.size a ≤ S10x80x8192.size a := by
  intro a; fin_cases a <;> simp <;> omega
theorem inb_cell (j : ℕ) (h : j < 10) : ∀ a, ![j] a + S1.size a ≤ S10.size a := by
  intro a; fin_cases a; simp; omega

/-- What slot `j` holds: free, or in flight with a block of the weights. -/
def slotW (c : Dev nD) (fw : WBuf (F := F) c) (j : Fin 10) : Option (Fin 125) → sProp 𝕄
  | none => freeAt c fw j.val ![j.val, 0, 0] (inb_slot j.val j.isLt) ![j.val] (inb_cell j.val j.isLt)
  | some b => flightAt c fw j.val ![j.val, 0, 0] (inb_slot j.val j.isLt) ![j.val] (inb_cell j.val j.isLt) ![80 * b.val, 0] (inb_blk b.val b.isLt)

/-- Equal offsets name the same free slot. -/
theorem free_congr (c : Dev nD) (fw : WBuf (F := F) c) (j : ℕ) {o o' : Fin 3 → ℕ} (ho ho') {p p' : Fin 1 → ℕ} (hp hp')
    (eo : o = o') (ep : p = p') : (freeAt c fw j o ho p hp : sProp 𝕄) = freeAt c fw j o' ho' p' hp' := by
  subst eo ep; rfl
/-- Equal offsets name the same slot in flight. -/
theorem flight_congr (c : Dev nD) (fw : WBuf (F := F) c) (j : ℕ) {o o' : Fin 3 → ℕ} (ho ho') {p p' : Fin 1 → ℕ} (hp hp')
    {q q' : Fin 2 → ℕ} (hq hq') (eo : o = o') (ep : p = p') (eq : q = q') :
    (flightAt c fw j o ho p hp q hq : sProp 𝕄) = flightAt c fw j o' ho' p' hp' q' hq' := by
  subst eo ep eq; rfl

/-- The slots' states before trip `n`: slot `j` in flight with the first block not yet read whose turn is `j`'s. -/
def stOf (n : ℕ) (j : Fin 10) : Option (Fin 125) :=
  if h : n + (j.val + 10 - n % 10) % 10 < 125 then some ⟨n + (j.val + 10 - n % 10) % 10, h⟩ else none

/-- The slot of trip `n`. -/
def slotOf (n : ℕ) : Fin 10 := ⟨n % 10, Nat.mod_lt _ (by decide)⟩

theorem stOf_cur (n : ℕ) (h : n < 125) : stOf n (slotOf n) = some ⟨n, h⟩ := by
  have e : n + ((slotOf n).val + 10 - n % 10) % 10 = n := by simp [slotOf]
  unfold stOf; simp only [e]; rw [dif_pos h]

/-- One trip moves its slot on by ten blocks and no other slot. -/
theorem stOf_succ (n : ℕ) : stOf (n + 1) = Function.update (stOf n) (slotOf n) (if h : n + 10 < 125 then some ⟨n + 10, h⟩ else none) := by
  funext j
  by_cases hj : j = slotOf n
  · subst hj
    rw [Function.update_self]
    have e : n + 1 + ((slotOf n).val + 10 - (n + 1) % 10) % 10 = n + 10 := by simp only [slotOf]; omega
    unfold stOf; simp only [e]
  · rw [Function.update_of_ne hj]
    have hv : j.val ≠ n % 10 := fun e => hj (Fin.ext e)
    have e : n + 1 + (j.val + 10 - (n + 1) % 10) % 10 = n + (j.val + 10 - n % 10) % 10 := by have := j.isLt; omega
    unfold stOf; simp only [e]

theorem stOf_zero (j : Fin 10) : stOf 0 j = some ⟨j.val, by omega⟩ := by revert j; decide
theorem stOf_end : stOf 125 = fun _ => none := by
  funext j; unfold stOf; rw [dif_neg (by omega)]

/-- A trip starts a copy exactly when ten trips on there is one. -/
theorem cond_iff : ∀ k : Fin k0_t1_loop.trips, k0_cond1 k = 1#1 ↔ k.val + 10 < 125 := by decide +kernel

/-- The invariant before trip `n`. -/
def inv (c : Dev nD) (fw : WBuf (F := F) c) (lab : Vec F S1x8192 .i32) (n : ℕ) : sProp 𝕄 :=
  iprop(Ring.AtW (slotW c fw) (stOf n)
    ∗ (∃ fe : EBuf (F := F) c, iprop(⌜eM.view.read (Elt F) fe = accE fw n⌝ ∗ (eM.view.loc (c : Thread nD τ) ↦{fullShare} fe)))
    ∗ (∃ ft : TBuf (F := F) c, iprop(⌜tM.view.read (Elt F) ft = accT fw lab n⌝ ∗ (tM.view.loc (c : Thread nD τ) ↦{fullShare} ft)))
    ∗ (∃ W, owes (c : Thread nD τ) 0 W))

/-- One trip takes the invariant on. -/
theorem inv_step (c : Dev nD) (arg0 : Memref sig .tc .vmem S1x8192 .i32) (harg0 : arg0.IsWhole) (arg2 : Memref sig .tc .smem S1x1 .f32) (harg2 : arg2.IsWhole)
    (fw : WBuf (F := F) c) (lab : Vec F S1x8192 .i32) (k : Fin k0_t1_loop.trips) :
    (inv c fw lab k.val : sProp 𝕄) ⊢ wp frame (wpE (defs₀ (F := F)) Variants.none c none) Set.univ
        (k0_t1_body arg0 harg0 wM (Memref.isWhole_whole _) arg2 harg2 rM (Memref.isWhole_whole _) cc0_scratch1 eM (Memref.isWhole_whole _) tM (Memref.isWhole_whole _) lab k ⟨⟩)
        (fun _ => inv c fw lab (k.val + 1)) := by
  have hk : k.val < 125 := lt_of_lt_of_eq k.isLt trips_eq
  have hE : accE fw (k.val + 1) = stepE (groups fw ![80 * k.val, 0] (inb_blk k.val hk)) (accE fw k.val) := by
    rw [accE, dif_pos hk]
  have hT : accT fw lab (k.val + 1) = stepT lab k (groups fw ![80 * k.val, 0] (inb_blk k.val hk)) (accT fw lab k.val) := by
    rw [accT, dif_pos hk]
  have hF : (slotW c fw (slotOf k.val) (stOf k.val (slotOf k.val)) : sProp 𝕄)
      = flightAt c fw (k.val % 10) (k0_off2 k) (k0_off2_inb k) (k0_off1 k) (k0_off1_inb k) ![80 * k.val, 0] (inb_blk k.val hk) := by
    rw [stOf_cur _ hk]
    exact flight_congr c fw _ _ _ _ _ _ _ (k0_off2_eq k).symm (k0_off1_eq k).symm rfl
  unfold inv
  rw [Ring.AtW_focus (slotW c fw) (stOf k.val) (slotOf k.val), hF, hE, hT, stOf_succ]
  by_cases hc : k0_cond1 k = 1#1
  · have h10 := (cond_iff k).1 hc
    rw [dif_pos h10]
    have hG : (slotW c fw (slotOf k.val) (some ⟨k.val + 10, h10⟩) : sProp 𝕄)
        = flightAt c fw (k.val % 10) (k0_off2 k) (k0_off2_inb k) (k0_off1 k) (k0_off1_inb k) (k0_off5 k) (k0_off5_inb k hc) :=
      flight_congr c fw _ _ _ _ _ _ _ (k0_off2_eq k).symm (k0_off1_eq k).symm
        (((k0_off5_eq k).trans (by rw [show 80 * k.val + 800 = 80 * (k.val + 10) by omega])).symm)
    iintro ⟨⟨HF, HR⟩, ⟨%fe, %he, He⟩, ⟨%ft, %ht, Ht⟩, ⟨%W, HO⟩⟩
    iapply (trip_more c arg0 harg0 arg2 harg2 fw lab k ![80 * k.val, 0] (inb_blk k.val hk) fe ft hc W)
    isplitl [HF]; · iexact HF
    isplitl [He]; · iexact He
    isplitl [Ht]; · iexact Ht
    isplitl [HO]; · iexact HO
    rw [he, ht]
    iintro ⟨HF, He, Ht, HO⟩
    isplitl [HF HR]
    · iapply (Ring.AtW_update (slotW c fw) (stOf k.val) (slotOf k.val) (some ⟨k.val + 10, h10⟩))
      rw [hG]
      isplitl [HF]; · iexact HF
      iexact HR
    isplitl [He]; · iexact He
    isplitl [Ht]; · iexact Ht
    iexact HO
  · have h10 : ¬ k.val + 10 < 125 := fun h => hc ((cond_iff k).2 h)
    rw [dif_neg h10]
    have hG : (slotW c fw (slotOf k.val) none : sProp 𝕄)
        = freeAt c fw (k.val % 10) (k0_off2 k) (k0_off2_inb k) (k0_off1 k) (k0_off1_inb k) :=
      free_congr c fw _ _ _ _ _ (k0_off2_eq k).symm (k0_off1_eq k).symm
    iintro ⟨⟨HF, HR⟩, ⟨%fe, %he, He⟩, ⟨%ft, %ht, Ht⟩, ⟨%W, HO⟩⟩
    iapply (trip_last c arg0 harg0 arg2 harg2 fw lab k ![80 * k.val, 0] (inb_blk k.val hk) fe ft hc W)
    isplitl [HF]; · iexact HF
    isplitl [He]; · iexact He
    isplitl [Ht]; · iexact Ht
    isplitl [HO]; · iexact HO
    rw [he, ht]
    iintro ⟨HF, He, Ht, HO⟩
    isplitl [HF HR]
    · iapply (Ring.AtW_update (slotW c fw) (stOf k.val) (slotOf k.val) none)
      rw [hG]
      isplitl [HF]; · iexact HF
      iexact HR
    isplitl [He]; · iexact He
    isplitl [Ht]; · iexact Ht
    iexact HO

end Cert.KernelIdeal.Hand

end
-- ==== Proof.KernelIdeal.Body.lean ====
/- The kernel's body: ten copies started, the loop, and the loss computed from the two accumulators. -/
module

public import proofs.«01_k».proof.Proof.KernelIdeal.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The ring, slot by slot. -/
theorem ring_list (c : Dev nD) (fw : WBuf (F := F) c) (st : Fin 10 → Option (Fin 125)) :
    (Ring.AtW (slotW c fw) st : sProp 𝕄)
      = iprop(slotW c fw 0 (st 0) ∗ slotW c fw 1 (st 1) ∗ slotW c fw 2 (st 2) ∗ slotW c fw 3 (st 3) ∗ slotW c fw 4 (st 4)
          ∗ slotW c fw 5 (st 5) ∗ slotW c fw 6 (st 6) ∗ slotW c fw 7 (st 7) ∗ slotW c fw 8 (st 8) ∗ slotW c fw 9 (st 9)) :=
  bigSep_univ_eq_bigSepL [(0 : Fin 10), 1, 2, 3, 4, 5, 6, 7, 8, 9] (by decide) (by decide) _

/-- The ring with every slot free. -/
theorem ring_free (c : Dev nD) (fw : WBuf (F := F) c) :
    (Ring.AtW (slotW c fw) (fun _ => none) : sProp 𝕄)
      = iprop(freeAt c fw 0 ![0, 0, 0] inb_S10x80x8192_S1x80x8192_0_0_0 ![0] inb_S10_S1_0
          ∗ freeAt c fw 1 ![1, 0, 0] inb_S10x80x8192_S1x80x8192_1_0_0 ![1] inb_S10_S1_1
          ∗ freeAt c fw 2 ![2, 0, 0] inb_S10x80x8192_S1x80x8192_2_0_0 ![2] inb_S10_S1_2
          ∗ freeAt c fw 3 ![3, 0, 0] inb_S10x80x8192_S1x80x8192_3_0_0 ![3] inb_S10_S1_3
          ∗ freeAt c fw 4 ![4, 0, 0] inb_S10x80x8192_S1x80x8192_4_0_0 ![4] inb_S10_S1_4
          ∗ freeAt c fw 5 ![5, 0, 0] inb_S10x80x8192_S1x80x8192_5_0_0 ![5] inb_S10_S1_5
          ∗ freeAt c fw 6 ![6, 0, 0] inb_S10x80x8192_S1x80x8192_6_0_0 ![6] inb_S10_S1_6
          ∗ freeAt c fw 7 ![7, 0, 0] inb_S10x80x8192_S1x80x8192_7_0_0 ![7] inb_S10_S1_7
          ∗ freeAt c fw 8 ![8, 0, 0] inb_S10x80x8192_S1x80x8192_8_0_0 ![8] inb_S10_S1_8
          ∗ freeAt c fw 9 ![9, 0, 0] inb_S10x80x8192_S1x80x8192_9_0_0 ![9] inb_S10_S1_9) :=
  ring_list c fw _

/-- The ring before the first trip: slot `j` in flight with block `j`. -/
theorem ring_first (c : Dev nD) (fw : WBuf (F := F) c) :
    (Ring.AtW (slotW c fw) (stOf 0) : sProp 𝕄)
      = iprop(flightAt c fw 0 ![0, 0, 0] inb_S10x80x8192_S1x80x8192_0_0_0 ![0] inb_S10_S1_0 ![0, 0] inb_S10000x8192_S80x8192_0_0
          ∗ flightAt c fw 1 ![1, 0, 0] inb_S10x80x8192_S1x80x8192_1_0_0 ![1] inb_S10_S1_1 ![80, 0] inb_S10000x8192_S80x8192_80_0
          ∗ flightAt c fw 2 ![2, 0, 0] inb_S10x80x8192_S1x80x8192_2_0_0 ![2] inb_S10_S1_2 ![160, 0] inb_S10000x8192_S80x8192_160_0
          ∗ flightAt c fw 3 ![3, 0, 0] inb_S10x80x8192_S1x80x8192_3_0_0 ![3] inb_S10_S1_3 ![240, 0] inb_S10000x8192_S80x8192_240_0
          ∗ flightAt c fw 4 ![4, 0, 0] inb_S10x80x8192_S1x80x8192_4_0_0 ![4] inb_S10_S1_4 ![320, 0] inb_S10000x8192_S80x8192_320_0
          ∗ flightAt c fw 5 ![5, 0, 0] inb_S10x80x8192_S1x80x8192_5_0_0 ![5] inb_S10_S1_5 ![400, 0] inb_S10000x8192_S80x8192_400_0
          ∗ flightAt c fw 6 ![6, 0, 0] inb_S10x80x8192_S1x80x8192_6_0_0 ![6] inb_S10_S1_6 ![480, 0] inb_S10000x8192_S80x8192_480_0
          ∗ flightAt c fw 7 ![7, 0, 0] inb_S10x80x8192_S1x80x8192_7_0_0 ![7] inb_S10_S1_7 ![560, 0] inb_S10000x8192_S80x8192_560_0
          ∗ flightAt c fw 8 ![8, 0, 0] inb_S10x80x8192_S1x80x8192_8_0_0 ![8] inb_S10_S1_8 ![640, 0] inb_S10000x8192_S80x8192_640_0
          ∗ flightAt c fw 9 ![9, 0, 0] inb_S10x80x8192_S1x80x8192_9_0_0 ![9] inb_S10_S1_9 ![720, 0] inb_S10000x8192_S80x8192_720_0) := by
  rw [show stOf 0 = fun j : Fin 10 => some ⟨j.val, by omega⟩ from funext stOf_zero]
  exact ring_list c fw _

/-- The labels as the body loads them. -/
theorem load_lab (v : View sig .tc .vmem S1x8192 .i32) (f : v.ty.Contents (Elt F)) (h : ∀ a, ![0, 0] a + S1x8192.size a ≤ S1x8192.size a) :
    v.readAt (Elt F) (Rect.unit (s := S1x8192) ![0, 0] S1x8192.size h).toLoadRect f = v.read (Elt F) f := by
  funext y
  have hy : (Rect.unit (s := S1x8192) ![0, 0] S1x8192.size h).toLoadRect.idx y = y := by
    funext a; apply Fin.ext; fin_cases a
    · have h0 : (y 0).val < 1 := (y 0).isLt
      simp [Rect.toLoadRect, LoadRect.idx, Rect.unit]; omega
    · simp [Rect.toLoadRect, LoadRect.idx, Rect.unit]
  exact congrArg (v.read (Elt F) f) hy

/-- A store of the result leaves the stored value. -/
theorem put_res (v : View sig .tc .smem S1x1 .f32) (f : v.ty.Contents (Elt F)) (h : ∀ a, ![0, 0] a + S1x1.size a ≤ S1x1.size a)
    (x : S1x1.Idx → Elt F .f32) : v.read (Elt F) (v.writes (Elt F) f [⟨Rect.unit (s := S1x1) ![0, 0] S1x1.size h, x⟩]) = x := by
  funext y
  have e := View.read_writes_cons_emb v f (Rect.unit (s := S1x1) ![0, 0] S1x1.size h) x [] y
  have hy : (Rect.unit (s := S1x1) ![0, 0] S1x1.size h).emb y = y := by
    have h0 : (y 0).val < 1 := (y 0).isLt
    have h1 : (y 1).val < 1 := (y 1).isLt
    funext a; apply Fin.ext; fin_cases a <;> simp [Rect.emb, Rect.unit] <;> omega
  rwa [hy] at e

/-- The body on its two staged operands. -/
theorem body_run (c : Dev nD) (arg0 : Memref sig .tc .vmem S1x8192 .i32) (harg0 : arg0.IsWhole) (arg2 : Memref sig .tc .smem S1x1 .f32) (harg2 : arg2.IsWhole)
    (fw : WBuf (F := F) c) (g0 : Buf (Elt F) (arg0.view.loc (c : Thread nD τ))) (g2 : Buf (Elt F) (arg2.view.loc (c : Thread nD τ)))
    (fe : EBuf (F := F) c) (ft : TBuf (F := F) c) (W : Waits sig Unit) (K : PUnit → sProp 𝕄) :
    iprop((arg0.view.loc (c : Thread nD τ) ↦[arg0.view.set]{fullShare} g0) ∗ (arg2.view.loc (c : Thread nD τ) ↦[arg2.view.set]{fullShare} g2)
      ∗ Ring.AtW (slotW c fw) (fun _ => none)
      ∗ (eM.view.loc (c : Thread nD τ) ↦{fullShare} fe) ∗ (tM.view.loc (c : Thread nD τ) ↦{fullShare} ft)
      ∗ owes (c : Thread nD τ) 0 W
      ∗ (((arg0.view.loc (c : Thread nD τ) ↦[arg0.view.set]{fullShare} g0)
          ∗ (∃ g2' : Buf (Elt F) (arg2.view.loc (c : Thread nD τ)), iprop(⌜arg2.view.read (Elt F) g2'
                = fun _ => k0_pay1 (accE fw 125) (accT fw (arg0.view.read (Elt F) g0) 125)⌝
              ∗ (arg2.view.loc (c : Thread nD τ) ↦[arg2.view.set]{fullShare} g2')))
          ∗ Ring.AtW (slotW c fw) (fun _ => none)
          ∗ (∃ fe : EBuf (F := F) c, eM.view.loc (c : Thread nD τ) ↦{fullShare} fe)
          ∗ (∃ ft : TBuf (F := F) c, tM.view.loc (c : Thread nD τ) ↦{fullShare} ft)
          ∗ (∃ W', owes (c : Thread nD τ) 0 W')) -∗ K ⟨⟩))
    ⊢ wp frame (wpE (defs₀ (F := F)) Variants.none c none) Set.univ
        (cc0_arcface_loss arg0 harg0 wM (Memref.isWhole_whole _) arg2 harg2 rM (Memref.isWhole_whole _) cc0_scratch1 eM (Memref.isWhole_whole _) tM (Memref.isWhole_whole _)) K := by
  rw [ring_free]
  simp only [cc0_arcface_loss_eq_skeleton]
  unfold cc0_arcface_loss_skel
  simp only [k0_part4_eq_skeleton, k0_part5_eq_skeleton, k0_part6_eq_skeleton]
  unfold k0_part4_skel k0_part5_skel k0_part6_skel
  iintro ⟨H0, H2, ⟨⟨C0, ⟨%f0, S0⟩, T0⟩, ⟨C1, ⟨%f1, S1⟩, T1⟩, ⟨C2, ⟨%f2, S2⟩, T2⟩, ⟨C3, ⟨%f3, S3⟩, T3⟩, ⟨C4, ⟨%f4, S4⟩, T4⟩,
    ⟨C5, ⟨%f5, S5⟩, T5⟩, ⟨C6, ⟨%f6, S6⟩, T6⟩, ⟨C7, ⟨%f7, S7⟩, T7⟩, ⟨C8, ⟨%f8, S8⟩, T8⟩, ⟨C9, ⟨%f9, S9⟩, T9⟩⟩, He, Ht, HO, HK⟩
  sl_exec
  sl_step
  sl_exec
  sl_step
  sl_exec
  rw [load_lab, wp_bind, wp_bind]
  iapply (Scf.wp_for Idealize.ShloMosaic.frame (wpE (defs₀ (F := F)) Variants.none (c : Thread nD τ) none) Set.univ _ _ _ k0_t1_ok ⟨⟩ _
    (fun n _ => inv c fw (arg0.view.read (Elt F) g0) n) (fun k _ => inv_step c arg0 harg0 arg2 harg2 fw _ k))
  isplitl [C0 T0 C1 T1 C2 T2 C3 T3 C4 T4 C5 T5 C6 T6 C7 T7 C8 T8 C9 T9 He Ht HO]
  · unfold inv
    isplitl [C0 T0 C1 T1 C2 T2 C3 T3 C4 T4 C5 T5 C6 T6 C7 T7 C8 T8 C9 T9]
    · rw [ring_first]
      isplitl [C0 T0]
      · isplitl [C0]
        · iexists f0; iexact C0
        · iexact T0
      isplitl [C1 T1]
      · isplitl [C1]
        · iexists f1; iexact C1
        · iexact T1
      isplitl [C2 T2]
      · isplitl [C2]
        · iexists f2; iexact C2
        · iexact T2
      isplitl [C3 T3]
      · isplitl [C3]
        · iexists f3; iexact C3
        · iexact T3
      isplitl [C4 T4]
      · isplitl [C4]
        · iexists f4; iexact C4
        · iexact T4
      isplitl [C5 T5]
      · isplitl [C5]
        · iexists f5; iexact C5
        · iexact T5
      isplitl [C6 T6]
      · isplitl [C6]
        · iexists f6; iexact C6
        · iexact T6
      isplitl [C7 T7]
      · isplitl [C7]
        · iexists f7; iexact C7
        · iexact T7
      isplitl [C8 T8]
      · isplitl [C8]
        · iexists f8; iexact C8
        · iexact T8
      isplitl [C9]
      · iexists f9; iexact C9
      · iexact T9
    isplitl [He]
    · iexists _
      isplitr [He]
      rotate_left
      · iexact He
      ipureintro
      exact put_acc _ _ _ _
    isplitl [Ht]
    · iexists _
      isplitr [Ht]
      rotate_left
      · iexact Ht
      ipureintro
      exact put_acc _ _ _ _
    iexists _
    iexact HO
  · iintro %_ HI
    rw [show Scf.trips k0_t1_loop.lb k0_t1_loop.ub k0_t1_loop.st = 125 from trips_eq, ← wp_bind]
    unfold inv
    rw [stOf_end, ring_free]
    icases HI with ⟨HR, ⟨%fe', %he, He⟩, ⟨%ft', %ht, Ht⟩, ⟨%W', HO⟩⟩
    sl_exec
    sl_step
    iapply HK
    isplitl [H0]; · iexact H0
    isplitl [H2]
    · iexists _
      isplitr [H2]
      rotate_left
      · iexact H2
      ipureintro
      refine (put_res _ _ _ _).trans ?_
      funext _
      rw [load_acc, load_acc, he, ht]
    isplitl [HR]; · iexact HR
    isplitl [He]; · iexists _; iexact He
    isplitl [Ht]; · iexists _; iexact Ht
    iexists _; iexact HO

end Cert.KernelIdeal.Hand

end
-- ==== Proof.KernelIdeal.Home.lean ====
/- The ring at the region's entry and exit: the cells at zero, the scratch buffer and the weights make the ten free slots,
   and come back from them. -/
module

public import proofs.«01_k».proof.Proof.KernelIdeal.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The kernel's own semaphores: the ten cells of the ring. -/
abbrev osem0 : Fin 10 → SemLoc sig := fun j => .dma (cellAt ![j.val] (inb_cell j.val j.isLt))
theorem ownSemFacts0 : Pipeline.OwnSemFacts spec0 osem0 := by decide

/-- The elements of slot `j`. -/
abbrev slotSet (j : Fin 10) : Finset S10x80x8192.Idx :=
  (Rect.unit (s := S10x80x8192) ![j.val, 0, 0] S1x80x8192.size (inb_slot j.val j.isLt)).set

theorem slot_set (j : Fin 10) : (slotAt ![j.val, 0, 0] (inb_slot j.val j.isLt)).view.set = slotSet j :=
  (View.set_reshape _ _).trans (View.set_slice_whole _ _)

/-- The slots are apart, and together they are the ring's buffer. -/
theorem slots_apart : ∀ j j' : Fin 10, j ≠ j' → Disjoint (slotSet j) (slotSet j') :=
  Ring.lead_disjoint (s := S10x80x8192) (0 : Fin 3) 1 (fun j : Fin 10 => ![j.val, 0, 0]) S1x80x8192.size (fun j => inb_slot j.val j.isLt)
    (fun j => by simp) rfl
theorem slots_cover : (Finset.univ : Finset (Fin 10)).biUnion slotSet = Finset.univ :=
  Ring.lead_cover (s := S10x80x8192) (0 : Fin 3) 1 (fun j : Fin 10 => ![j.val, 0, 0]) S1x80x8192.size (fun j => inb_slot j.val j.isLt)
    (fun j => by simp) (fun j a h => by fin_cases a <;> simp at h ⊢) rfl (fun a h => by fin_cases a <;> simp at h ⊢) rfl

/-- A slot, held whole at some contents. -/
abbrev slotP (c : Dev nD) (j : Fin 10) (f : RBuf (F := F) c) : sProp 𝕄 :=
  (slotAt ![j.val, 0, 0] (inb_slot j.val j.isLt)).view.loc (c : Thread nD τ) ↦[(slotAt ![j.val, 0, 0] (inb_slot j.val j.isLt)).view.set]{fullShare} f

theorem slotP_eq (c : Dev nD) (j : Fin 10) (f : RBuf (F := F) c) :
    slotP c j f = (((c : Thread nD τ).loc cc0_scratch0) ↦[slotSet j]{fullShare} f : sProp 𝕄) :=
  congrArg (fun S => (((c : Thread nD τ).loc cc0_scratch0) ↦[S]{fullShare} f : sProp 𝕄)) (slot_set j)

/-- The ring's buffer is its ten slots. -/
theorem slots_split (c : Dev nD) :
    iprop(∃ f : Buf (Elt F) ((c : Thread nD τ).loc cc0_scratch0), ((c : Thread nD τ).loc cc0_scratch0) ↦{fullShare} f)
      ⊢ (bigSep Finset.univ fun j : Fin 10 => iprop(∃ f, slotP c j f) : sProp 𝕄) := by
  have e : ∀ f : Buf (Elt F) ((c : Thread nD τ).loc cc0_scratch0), (((c : Thread nD τ).loc cc0_scratch0) ↦{fullShare} f : sProp 𝕄)
      ⊢ bigSep Finset.univ fun j : Fin 10 => iprop(∃ f, slotP c j f) := by
    intro f
    rw [Ring.pointsTo_blocks (Ix := Unit) (Name := ℕ) (U := Pipeline.UD sig nD τ) (Lvl := ℕ) (q := fullShare)
      (ℓ := (c : Thread nD τ).loc cc0_scratch0) slotSet slots_apart slots_cover f]
    have e' : ∀ j : Fin 10, (((c : Thread nD τ).loc cc0_scratch0) ↦[slotSet j]{fullShare} f : sProp 𝕄) ⊢ iprop(∃ f, slotP c j f) := by
      intro j; rw [← slotP_eq]; iintro H; iexists f; iexact H
    exact bigSep_mono fun j _ => e' j
  iintro ⟨%f, H⟩
  iapply (e f); iexact H
/-- The ten slots are the ring's buffer. -/
theorem slots_join (c : Dev nD) :
    (bigSep Finset.univ fun j : Fin 10 => iprop(∃ f, slotP (F := F) c j f) : sProp 𝕄)
      ⊢ iprop(∃ f : Buf (Elt F) ((c : Thread nD τ).loc cc0_scratch0), ((c : Thread nD τ).loc cc0_scratch0) ↦{fullShare} f) := by
  rw [show (fun j : Fin 10 => (iprop(∃ f, slotP (F := F) c j f) : sProp 𝕄))
      = fun j => iprop(∃ f, ((c : Thread nD τ).loc cc0_scratch0) ↦[slotSet j]{fullShare} f) from
    funext fun j => by simp only [slotP_eq]]
  exact Ring.pointsTo_blocks_join_exists (ℓ := (c : Thread nD τ).loc cc0_scratch0) slotSet slots_apart slots_cover (fun _ => default)

/-- What of the weights' read shares no slot takes. -/
def aside (c : Dev nD) (fw : WBuf (F := F) c) : sProp 𝕄 :=
  iprop((wM.view.loc (c : Thread nD τ) ↦{Transfers.shareDrop fullShare 12} fw)
    ∗ (wM.view.loc (c : Thread nD τ) ↦{Transfers.shareTokN fullShare 0} fw) ∗ (wM.view.loc (c : Thread nD τ) ↦{Transfers.shareTokN fullShare 1} fw))

/-- Twelve read shares are the two kept aside and the ten slots'. -/
theorem toks_eq (c : Dev nD) (fw : WBuf (F := F) c) :
    (bigSep Finset.univ (fun i : Fin 12 => wM.view.loc (c : Thread nD τ) ↦[Finset.univ]{Transfers.shareTok fullShare 12 i} fw) : sProp 𝕄)
      = iprop((wM.view.loc (c : Thread nD τ) ↦{Transfers.shareTokN fullShare 0} fw) ∗ (wM.view.loc (c : Thread nD τ) ↦{Transfers.shareTokN fullShare 1} fw)
        ∗ bigSep Finset.univ fun j : Fin 10 => tok c j.val Finset.univ fw) := by
  rw [bigSep_univ_eq_bigSepL [(0 : Fin 12), 1, 2, 3, 4, 5, 6, 7, 8, 9, 10, 11] (by decide) (by decide),
    bigSep_univ_eq_bigSepL [(0 : Fin 10), 1, 2, 3, 4, 5, 6, 7, 8, 9] (by decide) (by decide)]
  rfl

/-- The free ring by parts: the cells, the slots, the read shares. -/
theorem ring_parts (c : Dev nD) (fw : WBuf (F := F) c) :
    (Ring.AtW (slotW c fw) (fun _ => none) : sProp 𝕄)
      = iprop((bigSep Finset.univ fun j : Fin 10 => semVal ((c : Thread nD τ), osem0 j) 0)
        ∗ (bigSep Finset.univ fun j : Fin 10 => iprop(∃ f, slotP c j f)) ∗ bigSep Finset.univ fun j : Fin 10 => tok c j.val Finset.univ fw) :=
  (BI.bigSep_sep _ _ _).trans (congrArg (fun X => iprop((bigSep Finset.univ fun j : Fin 10 => semVal ((c : Thread nD τ), osem0 j) 0) ∗ X)) (BI.bigSep_sep _ _ _))

/-- The cells at zero, the ring's buffer and the weights make the free ring. -/
theorem ring_in (c : Dev nD) (fw : WBuf (F := F) c) :
    iprop((∃ f : Buf (Elt F) ((c : Thread nD τ).loc cc0_scratch0), ((c : Thread nD τ).loc cc0_scratch0) ↦{fullShare} f)
      ∗ Pipeline.ownSems0 (Ix := Unit) (Name := ℕ) (U := Pipeline.UD sig nD τ) (Lvl := ℕ) (Val := Elt F) (τ := τ) osem0 c
      ∗ (wM.view.loc (c : Thread nD τ) ↦{fullShare} fw))
    ⊢ (iprop(Ring.AtW (slotW c fw) (fun _ => none) ∗ aside c fw) : sProp 𝕄) := by
  unfold aside Pipeline.ownSems0
  iintro ⟨HS, HC, HW⟩
  ihave HW := (Transfers.pointsTo_toks_split (S := Finset.univ) fullShare 12) $$ HW
  icases HW with ⟨HD, HT⟩
  ihave HT := (Entails.of_eq (toks_eq c fw)) $$ HT
  icases HT with ⟨H0, H1, HT⟩
  isplitl [HS HC HT]
  · irw [ring_parts]
    isplitl [HC]; · iexact HC
    isplitl [HS]
    · iapply (slots_split c); iexact HS
    iexact HT
  isplitl [HD]; · iexact HD
  isplitl [H0]; · iexact H0
  iexact H1
/-- … and back. -/
theorem ring_out (c : Dev nD) (fw : WBuf (F := F) c) :
    (iprop(Ring.AtW (slotW c fw) (fun _ => none) ∗ aside c fw) : sProp 𝕄)
    ⊢ iprop((∃ f : Buf (Elt F) ((c : Thread nD τ).loc cc0_scratch0), ((c : Thread nD τ).loc cc0_scratch0) ↦{fullShare} f)
      ∗ Pipeline.ownSems0 (Ix := Unit) (Name := ℕ) (U := Pipeline.UD sig nD τ) (Lvl := ℕ) (Val := Elt F) (τ := τ) osem0 c
      ∗ (wM.view.loc (c : Thread nD τ) ↦{fullShare} fw)) := by
  unfold aside Pipeline.ownSems0
  rw [ring_parts]
  iintro ⟨⟨HC, HS, HT⟩, HD, H0, H1⟩
  isplitl [HS]
  · iapply (slots_join c); iexact HS
  isplitl [HC]; · iexact HC
  iapply (Transfers.pointsTo_toks_join (S := Finset.univ) fullShare 12)
  isplitl [HD]; · iexact HD
  irw [toks_eq]
  isplitl [H0]; · iexact H0
  isplitl [H1]; · iexact H1
  iexact HT

end Cert.KernelIdeal.Hand

end
-- ==== Proof.KernelIdeal.Launch.lean ====
/- The launch: the host operations around the kernel, the kernel as one region, and the run of the whole program. -/
module

public import proofs.«01_k».proof.Proof.KernelIdeal.Body
public import proofs.«01_k».proof.Proof.KernelIdeal.Home
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The one buffer in main memory that the body's copies read: the transposed weights. -/
def H0 : Finset (Ref sig .tc) := {main_v0}
theorem H0_sub : H0 ⊆ Pipeline.restRefs sig spec0 := by decide

set_option maxHeartbeats 800000 in
/-- The program around its region: the two host operations before it, the region, the one after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region does not touch the weights. -/
theorem sfx_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut Pipeline.Prefetch.none spec0 H0 _ ((List.forall_iff_forall_mem.mp hostOps1_sub) _ (List.mem_singleton.mpr rfl))
    (fun k => k.elim0) fun b hb => ?_
  rw [H0, Finset.mem_singleton] at hb
  subst hb
  rw [StableHlo.reshape_bufs, Finset.mem_insert, Finset.mem_singleton, not_or]
  exact ⟨StableHlo.devRef_ne_of_ne (by decide), StableHlo.devRef_ne_of_ne (by decide)⟩

/-- The loss that core `c` computes: the body's last value of the two accumulators. -/
def loss (c : Dev nD) (t : Fin cfg0.N) : Vec F S1x1 .f32 :=
  fun _ => k0_pay1 (accE (F := F) (c := c) (V m c main_v0) 125) (accT (V m c main_v0) (iblk m c 0 t) 125)

/-- The proof data of the pipeline: the arrays as the region finds them, the labels left in place, the loss stored. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => loss m c t
  Φ _ := Pipeline.ΦD osem0 spec0 H0 (fun c b => V m c b) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = loss m c t := by dsimp only [dats]

/-- The labels' staging buffer holds the labels when the body starts. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The region's invariant by parts: the scratch buffers, the generator register, the cells, the weights. -/
theorem phi_eq (c : Dev nD) :
    (Pipeline.ΦD osem0 spec0 H0 (fun c b => V m c b) c : sProp 𝕄)
      = iprop(((∃ f : Buf (Elt F) ((c : Thread nD τ).loc cc0_scratch0), ((c : Thread nD τ).loc cc0_scratch0) ↦{fullShare} f)
          ∗ (∃ f : EBuf (F := F) c, eM.view.loc (c : Thread nD τ) ↦{fullShare} f) ∗ (∃ f : TBuf (F := F) c, tM.view.loc (c : Thread nD τ) ↦{fullShare} f))
        ∗ (∃ r, prngReg c r)
        ∗ Pipeline.ownSems0 (Ix := Unit) (Name := ℕ) (U := Pipeline.UD sig nD τ) (Lvl := ℕ) (Val := Elt F) (τ := τ) osem0 c
        ∗ (wM.view.loc (c : Thread nD τ) ↦{fullShare} V m c main_v0)) := by
  rw [Pipeline.ΦD_eq, scopedRest0_eq, BI.bigSep_eq_bigSepL_of_eq [main_v0] (by decide) (by decide)]
  rfl

abbrev ms0 (t : Fin cfg0.N) : Memref sig .tc .vmem S1x8192 .i32 := win0_0.stage (cfg0.slots t 0)
abbrev ms1 (t : Fin cfg0.N) : Memref sig .tc .smem S1x1 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

/-- The body at the point, from the region's invariant back to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem0 spec0 H0 (fun c b => V m c b) c from rfl, phi_eq]
  unfold Dat.owesAt Pipeline.owesWithin
  rw [show (dats m 0 c).owed t.castSucc = 0 from rfl, show (dats m 0 c).owed t.succ = 0 from rfl]
  unfold owns
  iintro ⟨⟨⟨HS, ⟨%fe, He⟩, ⟨%ft, Ht⟩⟩, Hg, HC, Hw⟩, ⟨%W, -, HW⟩, ⟨%d0, %g0, %h0, H0⟩, ⟨%d1, %g1, -, H1⟩⟩
  ihave HR := (ring_in c (V m c main_v0)) $$ [HS HC Hw]
  · isplitl [HS]; · iexact HS
    isplitl [HC]; · iexact HC
    iexact Hw
  icases HR with ⟨HR, HA⟩
  iapply (body_run c (ms0 t) (hstage0_0 0) (ms1 t) (hstage0_1 0) (V m c main_v0) g0 g1 fe ft W _)
  isplitl [H0]; · iexact H0
  isplitl [H1]; · iexact H1
  isplitl [HR]; · iexact HR
  isplitl [He]; · iexact He
  isplitl [Ht]; · iexact Ht
  isplitl [HW]; · iexact HW
  iintro ⟨H0, ⟨%g1', %h1, H1⟩, HR, He, Ht, ⟨%W', HW'⟩⟩
  ihave HS := (ring_out c (V m c main_v0)) $$ [HR HA]
  · isplitl [HR]; · iexact HR
    iexact HA
  icases HS with ⟨HS, HC, Hw⟩
  isplitl [HS He Ht Hg HC Hw]
  · isplitl [HS He Ht]
    · isplitl [HS]; · iexact HS
      isplitl [He]; · iexact He
      iexact Ht
    isplitl [Hg]; · iexact Hg
    isplitl [HC]; · iexact HC
    iexact Hw
  isplitl [HW']
  · iexists W'; isplitr; · ipureintro; exact fun _ _ => Or.inl trivial
    iexact HW'
  isplitl [H0]
  · iexists g0; isplitr; · ipureintro; exact h0
    iexact H0
  · iexists g1'; isplitr
    · ipureintro
      rw [h0] at h1; exact h1
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, its arrays ending at the proof data's contents and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun _ => .rfl) (hout := fun _ => .rfl)

/-- The one value the program returns on core `c`. -/
def lossVal (c : Dev nD) : F .f32 := k0_pay1 (accE (F := F) (c := c) (V m c main_v0) 125) (accT (V m c main_v0) (iblk m c 0 t0_0) 125)

/-- The result's array after the region: the value everywhere. -/
theorem arr_end (c : Dev nD) : (dats m 0 c).arrAt 1 cfg0.N = fun _ => lossVal m c := by
  refine (dats m 0 c).arrAt_eq_of_after_last 1 t0_0 (by decide +kernel) _ fun j => ?_
  rw [after0_1]; rfl

/-- No host operation after the region writes an argument. -/
theorem tail_arg (c : Dev nD) (b : Ref sig .tc) (h : b ≠ main_v3) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h)),
    Pipeline.withArrays_of_ne _ c (V0 m c) _ b hb]

/-- The last host operation leaves the value in the returned array. -/
theorem tail_res (c : Dev nD) : Pipeline.afterTail₀ cfgs (dats m) 0 (V0 m) [hostOps1] c main_v3 = fun _ => lossVal m c := by
  have e : Pipeline.withArrays spec0 c (V0 m c) (fun w => (dats m 0 c).arrAt w cfg0.N) (Proc.devRef .tc main_v2) = fun _ => lossVal m c :=
    (Pipeline.withArrays_arr spec0 launch0.win.arr_inj c (V0 m c) (fun w => (dats m 0 c).arrAt w cfg0.N) 1).trans (arr_end m c)
  unfold Pipeline.afterTail₀
  show StableHlo.after [StableHlo.reshape main_v2 main_v3 (rfl : (.f32 : EltTy) = .f32) shapeCasts_S1x1_S_] _ (Proc.devRef .tc main_v3) = _
  rw [StableHlo.after_cons, StableHlo.after_nil, StableHlo.reshape_result]
  funext i
  exact congrFun e _

/-- THE RUN: the program ends with the value in the returned array, its arguments unchanged and every counter at zero. -/
theorem run : θ_run defs (onTc (τ := τ) (main (F := F))) ⟨m, fun _ => 0, ρ⟩ (fun r => (∀ c : Dev nD,
      r.2.mem ((c.tc : Thread nD τ).loc main_v3) = (fun _ => lossVal m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v3 (Pipeline.mem_restRefs_of main_v3 (by decide) (by decide))).trans (tail_res m c),
      (((h.1 c).2 main_arg0 (Pipeline.mem_restRefs_of main_arg0 (by decide) (by decide))).trans
        (tail_arg m c main_arg0 (by decide) (by exact (by decide : ∀ w, Pipeline.arrRef spec0 w ≠ main_arg0)))).trans (V_main_arg0 m c),
      (((h.1 c).2 main_arg1 (Pipeline.mem_restRefs_of main_arg1 (by decide) (by decide))).trans
        (tail_arg m c main_arg1 (by decide) (by exact (by decide : ∀ w, Pipeline.arrRef spec0 w ≠ main_arg1)))).trans (V_main_arg1 m c)⟩, h.2⟩)
    (run_main m ρ)

end Cert.KernelIdeal.Hand

end
-- ==== Proof.Frames.lean ====
/- What is claimed of the three programs' runs alone: each ends with its arguments unchanged and every counter at zero; and
   the idealized kernel is the kernel with its one rounded constant named. -/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel, at float bits. -/
theorem frame_kernel : Cert.quiescent_Kernel := fun m ρ _ =>
  (θ_run Cert.Kernel.defs _ _).mono (fun _ h => ⟨fun c => (h.1 c).2, h.2⟩) (Cert.Kernel.Hand.run (F := Bits) m ρ)

/-- The idealized kernel, at extended reals. -/
theorem frame_ideal : Cert.quiescent_KernelIdeal := fun m ρ _ =>
  (θ_run Cert.KernelIdeal.defs _ _).mono (fun _ h => ⟨fun c => (h.1 c).2, h.2⟩) (Cert.KernelIdeal.Hand.run (F := Ideal) m ρ)

/-- The reference, at extended reals: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant named is the literal's value: `64 / log 2`. -/
theorem preserves : Cert.preserves_Kernel_KernelIdeal :=
  IdealRules.named_const.statement Cert.KernelIdeal.κ "expc" .f32 0x42B8AA3B#32 ((64 * (Real.log 2)⁻¹ : ℝ) : EReal) rfl

end Cert.Proof

end
-- ==== Proof.Consts.lean ====
/- The float constants the programs spell, as the real numbers they denote. -/
module

public import Idealize.ShloMosaic.PureOps.Ideal

@[expose] public section

noncomputable section

namespace Cert.Value

open Idealize.ShloMosaic

/-- The lower end of the clip is `−(1 − 2⁻²³)`. -/
theorem ofBits_lo : Ideal.ofBits .f32 0xBF7FFFFE#32 = ((-(8388607 / 8388608) : ℝ) : EReal) := by
  simp [Ideal.ofBits, Ideal.ieee, -EReal.coe_mul]; norm_num

/-- The upper end of the clip is `1 − 2⁻²³`. -/
theorem ofBits_hi : Ideal.ofBits .f32 0x3F7FFFFE#32 = ((8388607 / 8388608 : ℝ) : EReal) := by
  simp [Ideal.ofBits, Ideal.ieee, -EReal.coe_mul]; norm_num

/-- The margin is one half. -/
theorem ofBits_half : Ideal.ofBits .f32 0x3F000000#32 = ((1 / 2 : ℝ) : EReal) := by
  simp [Ideal.ofBits, Ideal.ieee, -EReal.coe_mul]; norm_num

/-- The scale is sixty-four. -/
theorem ofBits_64 : Ideal.ofBits .f32 0x42800000#32 = ((64 : ℝ) : EReal) := by
  simp [Ideal.ofBits, Ideal.ieee, -EReal.coe_mul]; norm_num

/-- The number of rows is 8192. -/
theorem ofBits_8192 : Ideal.ofBits .f32 0x46000000#32 = ((8192 : ℝ) : EReal) := by
  simp [Ideal.ofBits, Ideal.ieee, -EReal.coe_mul]; norm_num

/-- The factor of the mean is `−1/8192`. -/
theorem ofBits_mean : Ideal.ofBits .f32 0xB9000000#32 = ((-(1 / 8192) : ℝ) : EReal) := by
  simp [Ideal.ofBits, Ideal.ieee, -EReal.coe_mul]; norm_num

end Cert.Value

end
-- ==== Proof.Scalars.lean ====
/- The equations between extended reals that carry the kernel's arithmetic over to the reference's. -/
module

public import proofs.«01_k».proof.Proof.Consts
public import Idealize.ShloMosaic.Lib.Pointwise

@[expose] public section

noncomputable section

namespace Cert.Value

open Idealize.ShloMosaic

/-- Two to the `x · 64 / log 2` is `e` to the `64 x`, for every extended real. -/
theorem exp2_kappa (x : EReal) :
    Ideal.exp2 (x * ((64 * (Real.log 2)⁻¹ : ℝ) : EReal)) = Ideal.exp (((64 : ℝ) : EReal) * x) := by
  have hl : 0 < Real.log 2 := Real.log_pos (by norm_num)
  have hk : (0 : ℝ) < 64 * (Real.log 2)⁻¹ := by positivity
  induction x with
  | bot => rw [EReal.bot_mul_coe_of_pos hk, EReal.coe_mul_bot_of_pos (by norm_num)]; simp
  | top => rw [EReal.top_mul_coe_of_pos hk, EReal.coe_mul_top_of_pos (by norm_num)]; simp
  | coe r =>
    rw [← EReal.coe_mul, ← EReal.coe_mul, Ideal.exp2_coe, Ideal.exp_coe, EReal.coe_eq_coe_iff]
    rw [Real.rpow_eq_pow, Real.rpow_def_of_pos (by norm_num)]
    congr 1
    field_simp

/-- A clipped number is a real of `[−1, 1]`. -/
theorem clip_real (x : EReal) : ∃ r : ℝ, -1 ≤ r ∧ r ≤ 1 ∧
    min (Ideal.ofBits .f32 0x3F7FFFFE#32) (max (Ideal.ofBits .f32 0xBF7FFFFE#32) x) = (r : EReal) := by
  rw [ofBits_lo, ofBits_hi]
  have hlo : ((-(8388607 / 8388608) : ℝ) : EReal)
      ≤ min ((8388607 / 8388608 : ℝ) : EReal) (max ((-(8388607 / 8388608) : ℝ) : EReal) x) :=
    le_min (by rw [EReal.coe_le_coe_iff]; norm_num) (le_max_left _ _)
  have hhi : min ((8388607 / 8388608 : ℝ) : EReal) (max ((-(8388607 / 8388608) : ℝ) : EReal) x)
      ≤ ((8388607 / 8388608 : ℝ) : EReal) := min_le_left _ _
  generalize min ((8388607 / 8388608 : ℝ) : EReal) (max ((-(8388607 / 8388608) : ℝ) : EReal) x) = y at hlo hhi
  induction y with
  | bot => exact absurd hlo (by simp)
  | top => exact absurd hhi (by simp)
  | coe r =>
    rw [EReal.coe_le_coe_iff] at hlo hhi
    exact ⟨r, by linarith, by linarith, rfl⟩

/-- The cosine of an angle plus the margin, from the angle's cosine: `t cos M − √(1 − t²) sin M` is `cos (arccos t + M)`
    at a clipped `t`. -/
theorem margin (x : EReal) :
    (min (Ideal.ofBits .f32 0x3F7FFFFE#32) (max (Ideal.ofBits .f32 0xBF7FFFFE#32) x)) * Ideal.cos (Ideal.ofBits .f32 0x3F000000#32)
        - Ideal.sqrt (1 - (min (Ideal.ofBits .f32 0x3F7FFFFE#32) (max (Ideal.ofBits .f32 0xBF7FFFFE#32) x))
            * (min (Ideal.ofBits .f32 0x3F7FFFFE#32) (max (Ideal.ofBits .f32 0xBF7FFFFE#32) x)))
          * Ideal.sin (Ideal.ofBits .f32 0x3F000000#32)
      = Ideal.cos (Ideal.acos (min (Ideal.ofBits .f32 0x3F7FFFFE#32) (max (Ideal.ofBits .f32 0xBF7FFFFE#32) x))
          + Ideal.ofBits .f32 0x3F000000#32) := by
  obtain ⟨r, h1, h2, e⟩ := clip_real x
  rw [e, ofBits_half, Ideal.cos_coe, Ideal.sin_coe, Ideal.acos_coe, if_pos ⟨h1, h2⟩, ← EReal.coe_add, Ideal.cos_coe,
    ← EReal.coe_mul, ← EReal.coe_mul, ← EReal.coe_one, ← EReal.coe_sub, Ideal.sqrt_coe,
    if_neg (by nlinarith), ← EReal.coe_mul, ← EReal.coe_sub, EReal.coe_eq_coe_iff, Real.cos_add, Real.cos_arccos h1 h2,
    Real.sin_arccos, pow_two]

/-- The mean with its sign: the sum times `−1/8192` is minus the sum over 8192. -/
theorem mean (x : EReal) :
    x * Ideal.ofBits .f32 0xB9000000#32 = -(Ideal.div x (Ideal.ofBits .f32 0x46000000#32)) := by
  rw [ofBits_mean, ofBits_8192, Ideal.div_coe (by norm_num : (8192 : ℝ) ≠ 0), EReal.coe_neg, mul_neg]

/-- The loss of one row, from the row's sum of exponentials `e` and its chosen entry `x`, as the reference spells it. -/
def lossTerm (e x : EReal) : EReal :=
  Ideal.ofBits .f32 0x42800000#32 * Ideal.cos (Ideal.acos (min (Ideal.ofBits .f32 0x3F7FFFFE#32)
      (max (Ideal.ofBits .f32 0xBF7FFFFE#32) x)) + Ideal.ofBits .f32 0x3F000000#32)
    - Ideal.log (Ideal.exp (Ideal.ofBits .f32 0x42800000#32 * Ideal.cos (Ideal.acos (min (Ideal.ofBits .f32 0x3F7FFFFE#32)
        (max (Ideal.ofBits .f32 0xBF7FFFFE#32) x)) + Ideal.ofBits .f32 0x3F000000#32))
      + (e - Ideal.exp (Ideal.ofBits .f32 0x42800000#32 * x)))

end Cert.Value

end
-- ==== Proof.Value.Steps.lean ====
/- One trip of the kernel's loop at one element of the accumulators, over the extended reals: what it adds. -/
module

public import proofs.«01_k».proof.Proof.KernelIdeal.Acc
public import proofs.«01_k».proof.Proof.Scalars

@[expose] public section

noncomputable section

namespace Cert.Value

open Cert.KernelIdeal Cert.KernelIdeal.Gen Cert.KernelIdeal.Hand
open Idealize.ShloMosaic Idealize.ShloMosaic.TcCoe

/-- The named constant is `64 / log 2`. -/
theorem named_kappa : Named.named (F := Ideal) (φ := .f32) κ "expc" 0x42B8AA3B#32 = ((64 * (Real.log 2)⁻¹ : ℝ) : EReal) :=
  IdealRules.named_const.ideal_named_scalar κ "expc" _ _ rfl

/-- One exponential of the kernel, in base two with the named factor, is the reference's. -/
theorem exp_term (x : EReal) :
    FloatOps.exp2 (F := Ideal) (φ := .f32) (x * Named.named (F := Ideal) (φ := .f32) κ "expc" 0x42B8AA3B#32)
      = Ideal.exp (((64 : ℝ) : EReal) * x) := by
  rw [named_kappa]
  exact exp2_kappa x

/-- Group `j`'s row `s` of trip `n`'s block is row `80 n + 8 j + s` of the weights. -/
theorem groups_at {c : Dev nD} (fw : WBuf (F := Ideal) c) (n : ℕ) (h : n < 125) (j : Fin 10) (s : Fin 8) (l : Fin 8192) :
    groups fw ![80 * n, 0] (inb_blk n h) j (ix2 s l)
      = (fw : S10000x8192.Idx → EReal) (ix2 ⟨80 * n + 8 * j.val + s.val, by omega⟩ l) := by
  unfold groups rows
  refine congrArg (fw : S10000x8192.Idx → EReal) ?_
  funext a
  apply Fin.ext
  fin_cases a
  · show 80 * n + 1 * (8 * j.val + 1 * s.val) = 80 * n + 8 * j.val + s.val
    omega
  · show 0 + 1 * (0 + 1 * l.val) = l.val
    omega

/-- A sum over ten, written out. -/
theorem sum_ten (f : Fin 10 → EReal) :
    ∑ j, f j = f 0 + f 1 + f 2 + f 3 + f 4 + f 5 + f 6 + f 7 + f 8 + f 9 := by
  rw [Fin.sum_univ_castSucc (n := 9), Fin.sum_univ_castSucc (n := 8), Fin.sum_univ_eight]
  rfl

/-- A select on an equality of words. -/
theorem select_eq (a b : BitVec 32) (x y : EReal) : Scalar.select (IntOp.cmpi .eq a b) x y = if a = b then x else y := by
  by_cases h : a = b
  · subst h; rw [if_pos rfl, IntOp.cmpi_eq_self]; rfl
  · rw [if_neg h]
    show Scalar.select (BitVec.ofBool (a == b)) x y = y
    rw [beq_eq_false_iff_ne.mpr h]; rfl

/-- A trip adds to an accumulator of exponentials the ten groups' exponentials of sixty-four times the entry. -/
theorem stepE_at (b : Fin 10 → Vec Ideal S8x8192 .f32) (acc : Vec Ideal S8x8192 .f32) (i : S8x8192.Idx) :
    stepE b acc i = acc i + ∑ j : Fin 10, Ideal.exp (((64 : ℝ) : EReal) * b j i) := by
  unfold stepE
  pointwise [k0_pay23, k0_pay10, k0_pay5, k0_pay3]
  simp only [exp_term, sum_ten]

/-- A trip adds to an accumulator of chosen entries, of the ten groups, the entries whose class is the column's label. -/
theorem stepT_at (lab : Vec Ideal S1x8192 .i32) (k : Fin k0_t1_loop.trips) (b : Fin 10 → Vec Ideal S8x8192 .f32)
    (acc : Vec Ideal S8x8192 .f32) (s : Fin 8) (l : Fin 8192) :
    stepT lab k b acc (ix2 s l) = acc (ix2 s l) + ∑ j : Fin 10,
      (if BitVec.ofNat 32 s.val + BitVec.ofNat 32 (8 * j.val) = lab (ix2 0 l) - Scf.iv 0#32 1#32 k.val * 80#32 then b j (ix2 s l) else 0) := by
  unfold stepT
  pointwise [k0_pay24, k0_pay22, k0_pay21, k0_pay20, k0_pay19, k0_pay18, k0_pay17, k0_pay16, k0_pay15, k0_pay14, k0_pay13,
    k0_pay9, k0_pay8, k0_pay7, k0_pay6, k0_pay4, k0_pay2, lab0]
  simp only [select_eq, sum_ten]
  rfl

end Cert.Value

end
-- ==== Proof.Value.Totals.lean ====
/- What the kernel's two accumulators hold after the last trip, summed over their eight rows: a column's sum over all
   10000 classes, and the column's entry at its label. -/
module

public import proofs.«01_k».proof.Proof.Value.Steps

@[expose] public section

noncomputable section

namespace Cert.Value

open Cert.KernelIdeal Cert.KernelIdeal.Gen Cert.KernelIdeal.Hand
open Idealize.ShloMosaic Idealize.ShloMosaic.TcCoe

/-- A sum over `a · b` is a sum of `a` sums over `b`. -/
theorem sum_mul (f : ℕ → EReal) (a b : ℕ) :
    ∑ k ∈ Finset.range a, ∑ j ∈ Finset.range b, f (b * k + j) = ∑ p ∈ Finset.range (b * a), f p := by
  induction a with
  | zero => simp
  | succ a ih => rw [Finset.sum_range_succ, ih, Nat.mul_succ, Finset.sum_range_add]

/-- The classes taken eight rows at a time, ten groups to a trip, 125 trips, are all the classes. -/
theorem sum_classes (f : ℕ → EReal) :
    ∑ s : Fin 8, ∑ k ∈ Finset.range 125, ∑ j : Fin 10, f (80 * k + 8 * j.val + s.val) = ∑ p : Fin 10000, f p.val := by
  rw [Finset.sum_comm]
  have e : ∀ k ∈ Finset.range 125, (∑ s : Fin 8, ∑ j : Fin 10, f (80 * k + 8 * j.val + s.val))
      = ∑ q ∈ Finset.range 80, f (80 * k + q) := by
    intro k _
    rw [Finset.sum_comm, ← sum_mul (fun q => f (80 * k + q)) 10 8, Finset.sum_range]
    refine Finset.sum_congr rfl fun j _ => ?_
    rw [Finset.sum_range]
    exact Finset.sum_congr rfl fun s _ => by rw [Nat.add_assoc]
  rw [Finset.sum_congr rfl e, sum_mul f 125 80, Finset.sum_range]

/-- A function on the classes, zero past the last. -/
def ext (g : Fin 10000 → EReal) (p : ℕ) : EReal := if h : p < 10000 then g ⟨p, h⟩ else 0

theorem ext_of_lt (g : Fin 10000 → EReal) (p : ℕ) (h : p < 10000) : ext g p = g ⟨p, h⟩ := dif_pos h

/-- The accumulator of exponentials before trip `n`, at row `s` of column `l`. -/
theorem accE_at {c : Dev nD} (fw : WBuf (F := Ideal) c) (s : Fin 8) (l : Fin 8192) (n : ℕ) (hn : n ≤ 125) :
    accE fw n (ix2 s l) = ∑ k ∈ Finset.range n, ∑ j : Fin 10,
      ext (fun p => Ideal.exp (((64 : ℝ) : EReal) * (fw : S10000x8192.Idx → EReal) (ix2 p l))) (80 * k + 8 * j.val + s.val) := by
  induction n with
  | zero =>
    show (k0_pay11 : FVec Ideal S8x8192 .f32) (ix2 s l) = _
    pointwise [k0_pay11]
    simp
  | succ n ih =>
    have h : n < 125 := hn
    rw [Finset.sum_range_succ, ← ih h.le]
    simp only [accE, dif_pos h]
    rw [stepE_at]
    congr 1
    refine Finset.sum_congr rfl fun j _ => ?_
    rw [groups_at fw n h, ext_of_lt _ _ (by omega)]

/-- The test of one entry's class against the label less the trip's first class is the test against the label. -/
theorem label_test (w : BitVec 32) (hw : w.toNat < 10000) (n : ℕ) (hn : n < 125) (j : Fin 10) (s : Fin 8) :
    (BitVec.ofNat 32 s.val + BitVec.ofNat 32 (8 * j.val) = w - Scf.iv 0#32 1#32 n * 80#32) ↔ w.toNat = 80 * n + 8 * j.val + s.val := by
  have e : (Scf.iv 0#32 1#32 n : BitVec 32).toNat = n := by
    simp [Scf.iv]; omega
  constructor
  · intro h
    have h' := congrArg BitVec.toNat h
    simp only [BitVec.toNat_add, BitVec.toNat_sub, BitVec.toNat_mul, BitVec.toNat_ofNat, e] at h'
    omega
  · intro h
    apply BitVec.eq_of_toNat_eq
    simp only [BitVec.toNat_add, BitVec.toNat_sub, BitVec.toNat_mul, BitVec.toNat_ofNat, e]
    omega

/-- The accumulator of chosen entries before trip `n`, at row `s` of column `l`. -/
theorem accT_at {c : Dev nD} (fw : WBuf (F := Ideal) c) (lab : Vec Ideal S1x8192 .i32) (s : Fin 8) (l : Fin 8192)
    (hl : (lab (ix2 0 l) : BitVec 32).toNat < 10000) (n : ℕ) (hn : n ≤ 125) :
    accT fw lab n (ix2 s l) = ∑ k ∈ Finset.range n, ∑ j : Fin 10,
      ext (fun p => if (lab (ix2 0 l) : BitVec 32).toNat = p.val then (fw : S10000x8192.Idx → EReal) (ix2 p l) else 0) (80 * k + 8 * j.val + s.val) := by
  induction n with
  | zero =>
    show (k0_pay12 : FVec Ideal S8x8192 .f32) (ix2 s l) = _
    pointwise [k0_pay12]
    simp
  | succ n ih =>
    have h : n < 125 := hn
    rw [Finset.sum_range_succ, ← ih h.le]
    simp only [accT, dif_pos h]
    rw [stepT_at]
    congr 1
    refine Finset.sum_congr rfl fun j _ => ?_
    rw [groups_at fw n h, ext_of_lt _ _ (by omega)]
    exact if_congr (label_test _ hl n h j s) rfl rfl

/-- A column's sum of the exponentials. -/
theorem sumE {c : Dev nD} (fw : WBuf (F := Ideal) c) (l : Fin 8192) :
    ∑ s : Fin 8, accE fw 125 (ix2 s l)
      = ∑ p : Fin 10000, Ideal.exp (((64 : ℝ) : EReal) * (fw : S10000x8192.Idx → EReal) (ix2 p l)) := by
  simp only [accE_at fw _ l 125 le_rfl]
  rw [sum_classes]
  exact Finset.sum_congr rfl fun p _ => ext_of_lt _ _ p.isLt

/-- A column's chosen entry. -/
theorem sumT {c : Dev nD} (fw : WBuf (F := Ideal) c) (lab : Vec Ideal S1x8192 .i32) (l : Fin 8192)
    (hl : (lab (ix2 0 l) : BitVec 32).toNat < 10000) :
    ∑ s : Fin 8, accT fw lab 125 (ix2 s l) = (fw : S10000x8192.Idx → EReal) (ix2 ⟨(lab (ix2 0 l) : BitVec 32).toNat, hl⟩ l) := by
  simp only [accT_at fw lab _ l hl 125 le_rfl]
  rw [sum_classes, Finset.sum_congr rfl fun p _ => ext_of_lt _ _ p.isLt]
  rw [Finset.sum_eq_single ⟨(lab (ix2 0 l) : BitVec 32).toNat, hl⟩]
  · simp
  · intro p _ hp
    rw [if_neg]
    intro e
    exact hp (Fin.ext e.symm)
  · simp

end Cert.Value

end
-- ==== Proof.Value.Epilogue.lean ====
/- The kernel's last step at the extended reals: the mean, with its sign, of the losses of the 8192 rows. -/
module

public import proofs.«01_k».proof.Proof.Value.Steps

@[expose] public section

noncomputable section

namespace Cert.Value

open Cert.KernelIdeal Cert.KernelIdeal.Gen
open Idealize.ShloMosaic Idealize.ShloMosaic.TcCoe

set_option maxRecDepth 16384 in
/-- The loss from the two accumulators: minus the mean over the columns of the loss at the column's two sums. -/
theorem loss_at (e t : Vec Ideal S8x8192 .f32) :
    (k0_pay1 (F := Ideal) e t : EReal)
      = -(Ideal.div (∑ l : Fin 8192, lossTerm (∑ s : Fin 8, e (ix2 s l)) (∑ s : Fin 8, t (ix2 s l)))
          (Ideal.ofBits .f32 0x46000000#32)) := by
  rw [← mean]
  pointwise [k0_pay1]
  rw [Fin.sum_univ_one]
  refine congrArg (· * Ideal.ofBits .f32 0xB9000000#32) (Finset.sum_congr rfl fun l _ => ?_)
  rw [lossTerm, ← margin]
  rfl

end Cert.Value

end
-- ==== Proof.Value.Inputs.lean ====
/- What the kernel is called with: the weights transposed, and the labels as one row. -/
module

public import proofs.«01_k».proof.Proof.KernelIdeal.Launch
public import Idealize.ShloMosaic.Lib.Pointwise

@[expose] public section

noncomputable section

namespace Cert.Value

open Cert.KernelIdeal Cert.KernelIdeal.Gen Cert.KernelIdeal.Hand
open Idealize.ShloMosaic Idealize.ShloMosaic.TcCoe Idealize.ShloMosaic.StableHlo Idealize.SL.Sem

variable (m : (ℓ : Loc nD τ sig) → Buf (Elt Ideal) ℓ) (c : Dev nD)

/-- The weights the kernel reads are the argument's, transposed. -/
theorem weights_eq : V m c main_v0
    = transpose S10000x8192 [1, 0] (m ((c.tc : Thread nD τ).loc main_arg0) : FVec Ideal S8192x10000 .f32)
        transposes_S8192x10000_S10000x8192_1_0 := by
  dsimp only [V, V0, List.flatten, List.append, hostOps0]
  after_results_simp <;> rfl

/-- The row of labels the kernel reads is the argument's. -/
theorem labels_eq : V m c main_v1
    = shapeCast S1x8192 (m ((c.tc : Thread nD τ).loc main_arg1) : IVec S8192 32) shapeCasts_S8192_S1x8192 := by
  dsimp only [V, V0, List.flatten, List.append, hostOps0]
  after_results_simp <;> rfl

/-- The weights at class `p` of row `l`. -/
theorem weights_at (p : Fin 10000) (l : Fin 8192) :
    (V m c main_v0 : S10000x8192.Idx → EReal) (ix2 p l)
      = (m ((c.tc : Thread nD τ).loc main_arg0) : S8192x10000.Idx → EReal) (ix2 l p) := by
  rw [weights_eq]
  pointwise

/-- A vector of labels as one row, at a column. -/
theorem row_at (lab : IVec S8192 32) (l : Fin 8192) :
    shapeCast S1x8192 lab shapeCasts_S8192_S1x8192 (ix2 0 l) = lab (ix1 l) := by
  pointwise

/-- The label of row `l`. -/
theorem label_at (l : Fin 8192) :
    (iblk m c 0 t0_0 : S1x8192.Idx → BitVec 32) (ix2 0 l)
      = (m ((c.tc : Thread nD τ).loc main_arg1) : S8192.Idx → BitVec 32) (ix1 l) := by
  have e : (iblk m c 0 t0_0 : S1x8192.Idx → BitVec 32) (ix2 0 l) = (V m c main_v1 : S1x8192.Idx → BitVec 32) (ix2 0 l) := by
    unfold iblk
    refine congrArg (V m c main_v1 : S1x8192.Idx → BitVec 32) ?_
    funext a
    apply Fin.ext
    fin_cases a
    · show 0 + 1 * 0 = 0
      rfl
    · show 0 + 1 * l.val = l.val
      omega
  rw [e, labels_eq]
  exact row_at _ l

end Cert.Value

end
-- ==== Proof.Value.Gather.lean ====
/- The reference's choice of one entry a row, read at a row: the gather, and the test that its index is in range. -/
module

public import proofs.«01_k».proof.Proof.Gen.ReferenceIdeal.Run
public import Idealize.ShloMosaic.Lib.Pointwise
public import Idealize.ShloMosaic.Lib.ReduceAll

@[expose] public section

noncomputable section

namespace Cert.Value

open Cert.ReferenceIdeal Cert.ReferenceIdeal.Gen
open Idealize.ShloMosaic Idealize.ShloMosaic.TcCoe Idealize.SL.Sem

/-- The gather at row `l`: the operand's row `l` at the row's start index, read signed and clamped into the classes. -/
theorem gather_at (x : S8192x10000.Idx → EReal) (idx : IVec S8192x1x1 32) (l : Fin 8192) :
    Host.gather gather_S8192x10000_S8192x1x1_S8192x1_n_1_0_0_1_2_11 x idx (ix2 l 0)
      = x (ix2 l ⟨min (idx (ix3 l 0 0)).toInt.toNat 9999, by omega⟩) := by
  unfold Host.gather
  congr 1
  funext a
  refine Fin.ext ?_
  show gather_S8192x10000_S8192x1x1_S8192x1_n_1_0_0_1_2_11.start (ix2 l 0) idx a
      + gather_S8192x10000_S8192x1x1_S8192x1_n_1_0_0_1_2_11.batchCoord (ix2 l 0) a
      + gather_S8192x10000_S8192x1x1_S8192x1_n_1_0_0_1_2_11.offCoord (ix2 l 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x10000_S8192x1x1_S8192x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x10000_S8192x1x1_S8192x1_n_1_0_0_1_2_11.startIndexMap from List.mem_singleton.mpr rfl)]
    have hsi : gather_S8192x10000_S8192x1x1_S8192x1_n_1_0_0_1_2_11.siIdx (ix2 l 0)
        ⟨List.idxOf (1 : Fin 2) gather_S8192x10000_S8192x1x1_S8192x1_n_1_0_0_1_2_11.startIndexMap,
          List.idxOf_lt_length_iff.2 (List.mem_singleton.mpr rfl)⟩ = ix3 l 0 0 := by
      funext b; refine Fin.ext ?_
      match b with
      | ⟨0, _⟩ => rfl
      | ⟨1, _⟩ => rfl
      | ⟨2, _⟩ => rfl
    rw [hsi]
    rfl

end Cert.Value

end
-- ==== Proof.Value.Target.lean ====
/- The reference's chosen entries, one a row, under labels in range: the row's entry at its label. -/
module

public import proofs.«01_k».proof.Proof.Value.Gather

@[expose] public section

noncomputable section

namespace Cert.Value

open Cert.ReferenceIdeal Cert.ReferenceIdeal.Gen
open Idealize.ShloMosaic Idealize.ShloMosaic.TcCoe Idealize.SL.Sem

/-- The indices the reference takes: the labels, those below zero raised by the number of classes. -/
def refIdx (lab : IVec S8192 32) : IVec S8192x1x1 32 :=
  shapeCast S8192x1x1 (select (cmpi .slt (broadcastInDim S8192x1 ![0] bcast_S8192_S8192x1_0 lab) (broadcastInDim S8192x1 ![] bcast_S_S8192x1 (constantI S_ 32 0#32)))
    (addi (broadcastInDim S8192x1 ![0] bcast_S8192_S8192x1_0 lab) (broadcastInDim S8192x1 ![] bcast_S_S8192x1 (constantI S_ 32 10000#32)))
    (broadcastInDim S8192x1 ![0] bcast_S8192_S8192x1_0 lab)) shapeCasts_S8192x1_S8192x1x1

/-- Which of the indices are classes. -/
def refIn (lab : IVec S8192 32) : IVec S8192x1x1 1 :=
  andi (cmpi .sge (refIdx lab) (broadcastInDim S8192x1x1 ![] bcast_S_S8192x1x1 (constantI S_ 32 0#32)))
    (cmpi .sle (refIdx lab) (broadcastInDim S8192x1x1 ![0, 1, 2] bcast_S1x1x1_S8192x1x1_0_1_2 (broadcastInDim S1x1x1 ![2] bcast_S1_S1x1x1_2 (constantI S1 32 9999#32))))

/-- The chosen entries. -/
def refTgt (x : FVec Ideal S8192x10000 .f32) (lab : IVec S8192 32) : FVec Ideal S8192 .f32 :=
  shapeCast S8192 (select (Host.reduce IntOp.andi (refIn lab) (constantI S_ 1 1#1) reducesTo_S8192x1x1_S8192x1_d2 h_S_)
    (Host.gather gather_S8192x10000_S8192x1x1_S8192x1_n_1_0_0_1_2_11 x (refIdx lab))
    (broadcastInDim S8192x1 ![] bcast_S_S8192x1 (constant S_ .f32 0x7FC00000#32))) shapeCasts_S8192x1_S8192

/-- A label in range is read signed as it is. -/
theorem toInt_label (w : BitVec 32) (h : w.toNat < 10000) : w.toInt = (w.toNat : ℤ) := by
  rw [BitVec.toInt_eq_toNat_of_lt (by omega)]

/-- A label in range is not below zero. -/
theorem label_slt (w : BitVec 32) (h : w.toNat < 10000) : IntOp.cmpi .slt w 0#32 = 0#1 := by
  show BitVec.ofBool (w.slt 0#32) = 0#1
  have e : w.slt 0#32 = false := by
    simp only [BitVec.slt, toInt_label w h, decide_eq_false_iff_not, BitVec.toInt_zero]; omega
  rw [e]; rfl

/-- A label in range is at least zero. -/
theorem label_sge (w : BitVec 32) (h : w.toNat < 10000) : IntOp.cmpi .sge w 0#32 = 1#1 := by
  show BitVec.ofBool (BitVec.sle 0#32 w) = 1#1
  have e : BitVec.sle 0#32 w = true := by
    simp only [BitVec.sle, toInt_label w h, decide_eq_true_iff, BitVec.toInt_zero]; omega
  rw [e]; rfl

/-- A label in range is at most the last class. -/
theorem label_sle (w : BitVec 32) (h : w.toNat < 10000) : IntOp.cmpi .sle w 9999#32 = 1#1 := by
  show BitVec.ofBool (w.sle 9999#32) = 1#1
  have e : w.sle 9999#32 = true := by
    simp only [BitVec.sle, toInt_label w h, decide_eq_true_iff, show (9999#32 : BitVec 32).toInt = 9999 from rfl]; omega
  rw [e]; rfl

/-- The precondition's two tests put a label in range. -/
theorem label_range (w : BitVec 32) (h : IntOp.andi (IntOp.cmpi .sge w 0#32) (IntOp.cmpi .slt w 10000#32) = 1#1) : w.toNat < 10000 := by
  obtain ⟨h1, h2⟩ := IntOp.andi_eq_one.1 h
  have h1' : BitVec.ofBool (BitVec.sle 0#32 w) = 1#1 := h1
  have h2' : BitVec.ofBool (w.slt 10000#32) = 1#1 := h2
  have key : ∀ b : Bool, BitVec.ofBool b = 1#1 → b = true := by decide
  replace h1' := key _ h1'
  replace h2' := key _ h2'
  simp only [BitVec.sle, BitVec.slt, decide_eq_true_iff, BitVec.toInt_zero, show (10000#32 : BitVec 32).toInt = 10000 from rfl] at h1' h2'
  rw [BitVec.toInt_eq_toNat_cond] at h1' h2'
  have := w.isLt
  split at h1' <;> omega

/-- The index of a row is its label. -/
theorem refIdx_at (lab : IVec S8192 32) (l : Fin 8192) (hl : (lab (ix1 l)).toNat < 10000) :
    refIdx lab (ix3 l 0 0) = lab (ix1 l) := by
  unfold refIdx
  pointwise
  rw [label_slt _ hl]
  rfl

/-- The index of a row is a class. -/
theorem refIn_at (lab : IVec S8192 32) (l : Fin 8192) (hl : (lab (ix1 l)).toNat < 10000) : refIn lab (ix3 l 0 0) = 1#1 := by
  unfold refIn
  pointwise
  rw [refIdx_at lab l hl, label_sge _ hl, label_sle _ hl]
  rfl

/-- The chosen entry of a row is the row's entry at its label. -/
theorem refTgt_at (x : FVec Ideal S8192x10000 .f32) (lab : IVec S8192 32) (hl : ∀ l : Fin 8192, (lab (ix1 l)).toNat < 10000) (l : Fin 8192) :
    refTgt x lab (ix1 l) = (x : S8192x10000.Idx → EReal) (ix2 l ⟨(lab (ix1 l)).toNat, hl l⟩) := by
  unfold refTgt
  pointwise
  rw [show (fun k : Fin 1 => refIn lab (ix3 l 0 k)) = fun _ => 1#1 from
    funext fun k => by rw [Subsingleton.elim k 0]; exact refIn_at lab l (hl l), gather_at]
  refine congrArg (fun q => (x : S8192x10000.Idx → EReal) (ix2 l q)) (Fin.ext ?_)
  show min (refIdx lab (ix3 l 0 0)).toInt.toNat 9999 = (lab (ix1 l)).toNat
  have h := hl l
  rw [refIdx_at lab l h, toInt_label _ h, Int.toNat_natCast]
  omega

end Cert.Value

end
-- ==== Proof.Value.Reference.lean ====
/- The reference's result over the extended reals, under labels in range: minus the mean over the rows of the loss at the
   row's sum of exponentials and its entry at its label. -/
module

public import proofs.«01_k».proof.Proof.Value.Target
public import proofs.«01_k».proof.Proof.Scalars

@[expose] public section

noncomputable section

namespace Cert.Value

open Cert.ReferenceIdeal Cert.ReferenceIdeal.Gen
open Idealize.ShloMosaic Idealize.ShloMosaic.TcCoe Idealize.SL.Sem

/-- Each row's loss, of the weights and the chosen entries. -/
def refLoss (x : FVec Ideal S8192x10000 .f32) (t : FVec Ideal S8192 .f32) : FVec Ideal S8192 .f32 :=
  subf (mulf (broadcastInDim S8192 ![] bcast_S_S8192 (constant S_ .f32 0x42800000#32)) (Host.cos (addf (Host.acos (minimumf (broadcastInDim S8192 ![] bcast_S_S8192 (id (constant S_ .f32 0x3F7FFFFE#32))) (maximumf (broadcastInDim S8192 ![] bcast_S_S8192 (id (constant S_ .f32 0xBF7FFFFE#32))) t))) (broadcastInDim S8192 ![] bcast_S_S8192 (constant S_ .f32 0x3F000000#32)))))
    (Host.log (addf
      (Host.exp (mulf (broadcastInDim S8192 ![] bcast_S_S8192 (constant S_ .f32 0x42800000#32)) (Host.cos (addf (Host.acos (minimumf (broadcastInDim S8192 ![] bcast_S_S8192 (id (constant S_ .f32 0x3F7FFFFE#32))) (maximumf (broadcastInDim S8192 ![] bcast_S_S8192 (id (constant S_ .f32 0xBF7FFFFE#32))) t))) (broadcastInDim S8192 ![] bcast_S_S8192 (constant S_ .f32 0x3F000000#32))))))
      (subf (Host.reduceAdd (Host.exp (mulf (broadcastInDim S8192x10000 ![] bcast_S_S8192x10000 (constant S_ .f32 0x42800000#32)) x)) (constant S_ .f32 0x00000000#32) reducesTo_S8192x10000_S8192_d1 h_S_)
        (Host.exp (mulf (broadcastInDim S8192 ![] bcast_S_S8192 (constant S_ .f32 0x42800000#32)) t)))))

/-- Minus the mean of the losses. -/
def refMean (v : FVec Ideal S8192 .f32) : FVec Ideal S_ .f32 :=
  Host.negf (Host.divf (Host.reduceAdd v (constant S_ .f32 0x00000000#32) reducesTo_S8192_S_d0 h_S_) (constant S_ .f32 0x46000000#32))

set_option maxRecDepth 16384 in
/-- A row's loss is the loss at the row's sum of exponentials and the row's chosen entry. -/
theorem refLoss_at (x : FVec Ideal S8192x10000 .f32) (t : FVec Ideal S8192 .f32) (l : Fin 8192) :
    refLoss x t (ix1 l)
      = lossTerm (∑ p : Fin 10000, Ideal.exp (((64 : ℝ) : EReal) * (x : S8192x10000.Idx → EReal) (ix2 l p))) (t (ix1 l)) := by
  unfold refLoss
  rw [← ofBits_64]
  pointwise [lossTerm]
  rfl

set_option maxRecDepth 16384 in
/-- The mean at its one element. -/
theorem refMean_at (v : FVec Ideal S8192 .f32) (j : S_.Idx) :
    refMean v j = -(Ideal.div (∑ l : Fin 8192, v (ix1 l)) (Ideal.ofBits .f32 0x46000000#32)) := by
  unfold refMean
  pointwise

/-- The reference's result is the mean of the losses at the chosen entries. -/
theorem res_eq (m : (ℓ : Loc nD τ sig) → Buf (Elt Ideal) ℓ) (c : Dev nD) :
    Value.res_main_v24 m c = refMean (refLoss (m ((c.tc : Thread nD τ).loc main_arg0))
      (refTgt (m ((c.tc : Thread nD τ).loc main_arg0)) (m ((c.tc : Thread nD τ).loc main_arg1)))) := by
  unfold Value.res_main_v24
  rfl

/-- The reference's result, under labels in range. -/
theorem reference_value (m : (ℓ : Loc nD τ sig) → Buf (Elt Ideal) ℓ) (c : Dev nD)
    (x : FVec Ideal S8192x10000 .f32) (lab : IVec S8192 32)
    (hx : m ((c.tc : Thread nD τ).loc main_arg0) = x) (hlab : m ((c.tc : Thread nD τ).loc main_arg1) = lab)
    (hl : ∀ l : Fin 8192, (lab (ix1 l)).toNat < 10000) (j : S_.Idx) :
    (Value.res_main_v24 m c : S_.Idx → EReal) j
      = -(Ideal.div (∑ l : Fin 8192, lossTerm
            (∑ p : Fin 10000, Ideal.exp (((64 : ℝ) : EReal) * (x : S8192x10000.Idx → EReal) (ix2 l p)))
            ((x : S8192x10000.Idx → EReal) (ix2 l ⟨(lab (ix1 l)).toNat, hl l⟩)))
          (Ideal.ofBits .f32 0x46000000#32)) := by
  rw [res_eq, hx, hlab, refMean_at]
  simp only [refLoss_at, refTgt_at x lab hl]

end Cert.Value

end
-- ==== Proof.Algebraic.lean ====
/- The value claim: over the extended reals, with every label a class, the kernel's loss is the reference's. -/
module

public import proofs.«01_k».proof.Defs
public import proofs.«01_k».proof.Proof.Value.Totals
public import proofs.«01_k».proof.Proof.Value.Epilogue
public import proofs.«01_k».proof.Proof.Value.Inputs
public import proofs.«01_k».proof.Proof.Value.Reference

@[expose] public section

noncomputable section

namespace Cert.Proof

open Idealize.ShloMosaic Idealize.ShloMosaic.TcCoe Idealize.SL.Sem

/-- The one shape relation the precondition states. -/
theorem pre_facts : Cert.Pre_labels_in_range.Facts := ⟨by decide⟩

/-- Under the precondition every label is a class. -/
theorem labels_lt (m : (ℓ : Loc Cert.KernelIdeal.nD Cert.KernelIdeal.τ Cert.KernelIdeal.sig) → Buf (Elt Ideal) ℓ)
    (hpre : Cert.Pre_KernelIdeal_labels_in_range (hPre_labels_in_range := pre_facts) m) (c : Dev Cert.KernelIdeal.nD)
    (l : Fin 8192) :
    ((m ((c.tc : Thread Cert.KernelIdeal.nD Cert.KernelIdeal.τ).loc Cert.KernelIdeal.main_arg1) : Cert.KernelIdeal.S8192.Idx → BitVec 32) (ix1 l)).toNat < 10000 := by
  apply Cert.Value.label_range
  exact congrFun (hpre c) (ix1 l)

/-- The kernel's loss, under labels in range. -/
theorem kernel_value (m : (ℓ : Loc Cert.KernelIdeal.nD Cert.KernelIdeal.τ Cert.KernelIdeal.sig) → Buf (Elt Ideal) ℓ)
    (c : Dev Cert.KernelIdeal.nD) (x : FVec Ideal Cert.KernelIdeal.S8192x10000 .f32) (lab : IVec Cert.KernelIdeal.S8192 32)
    (hx : m ((c.tc : Thread Cert.KernelIdeal.nD Cert.KernelIdeal.τ).loc Cert.KernelIdeal.main_arg0) = x)
    (hlab : m ((c.tc : Thread Cert.KernelIdeal.nD Cert.KernelIdeal.τ).loc Cert.KernelIdeal.main_arg1) = lab)
    (hl : ∀ l : Fin 8192, (lab (ix1 l)).toNat < 10000) :
    (Cert.KernelIdeal.Hand.lossVal (F := Ideal) m c : EReal)
      = -(Ideal.div (∑ l : Fin 8192, Cert.Value.lossTerm
            (∑ p : Fin 10000, Ideal.exp (((64 : ℝ) : EReal) * (x : Cert.KernelIdeal.S8192x10000.Idx → EReal) (ix2 l p)))
            ((x : Cert.KernelIdeal.S8192x10000.Idx → EReal) (ix2 l ⟨(lab (ix1 l)).toNat, hl l⟩)))
          (Ideal.ofBits .f32 0x46000000#32)) := by
  unfold Cert.KernelIdeal.Hand.lossVal
  rw [Cert.Value.loss_at]
  refine congrArg (fun q => -(Ideal.div q (Ideal.ofBits .f32 0x46000000#32))) (Finset.sum_congr rfl fun l _ => ?_)
  subst hx hlab
  have hlab' := Cert.Value.label_at m c l
  have hlt : (Cert.KernelIdeal.Gen.iblk m c 0 Cert.KernelIdeal.Gen.t0_0 (ix2 0 l) : BitVec 32).toNat < 10000 := by
    rw [hlab']; exact hl l
  rw [Cert.Value.sumE, Cert.Value.sumT _ _ l hlt]
  simp only [hlab']
  exact congrArg₂ Cert.Value.lossTerm
    (Finset.sum_congr rfl fun p _ => congrArg (fun q => Ideal.exp (((64 : ℝ) : EReal) * q)) (Cert.Value.weights_at m c p l))
    (Cert.Value.weights_at m c _ l)

/-- The value claim. -/
theorem algebraic : Cert.algebraic_KernelIdeal_ReferenceIdeal_pre_labels_in_range (hPre_labels_in_range := pre_facts) := by
  intro m ρ m' ρ' hpre hagree
  refine ⟨fun c => fun _ => Cert.KernelIdeal.Hand.lossVal (F := Ideal) m c,
    (θ_run Cert.KernelIdeal.defs _ _).mono (fun _ h c => h.1 c) (Cert.KernelIdeal.Hand.run (F := Ideal) m ρ),
    (θ_run Cert.ReferenceIdeal.defs _ _).mono (fun _ h c => ⟨(h c).1.trans ?_, (h c).2⟩)
      (Cert.ReferenceIdeal.Value.run (F := Ideal) m' ρ')⟩
  funext j
  exact (Cert.Value.reference_value m' c _ _ (hagree c).1 (hagree c).2 (labels_lt m hpre c) j).trans
    (kernel_value m c _ _ rfl rfl (labels_lt m hpre c)).symm

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

/-- All claims. -/
theorem claim : Cert.Claim :=
  ⟨Cert.Kernel.Gen.facts, Cert.KernelIdeal.Gen.facts, Cert.ReferenceIdeal.Gen.facts, pre_facts,
    frame_kernel, frame_ideal, fun m ρ _ => frame_ideal m ρ trivial, frame_reference, fun m ρ _ => frame_reference m ρ trivial,
    preserves, algebraic⟩

end Cert.Proof

end
